-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 1024, 1024]⟩ ⟨3, ![4, 4096, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4, 1024, 1024]⟩ ⟨3, ![4, 4096, 1024]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S4x1024x1024 : Shape := ⟨3, ![4, 1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn {F : FTy → Type} [FloatOps F] (main_arg0 : FVec F S1024x1024 .f32) (main_arg1 : FVec F S1024x1024 .f32) (main_arg2 : FVec F S1024x1024 .f32) (main_arg3 : FVec F S4x1024x1024 .f32) (main_arg4 : FVec F S4x1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x1024 .f32 := Host.absf main_arg3
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  main_v13
-- ==== Pre_finite_scores_ReferenceIdeal.lean ====
abbrev S1024x1024 : Shape := ⟨2, ![1024, 1024]⟩
abbrev S4x4096x1024 : Shape := ⟨3, ![4, 4096, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_

variable [Facts]

def fn {F : FTy → Type} [FloatOps F] (main_arg0 : FVec F S1024x1024 .f32) (main_arg1 : FVec F S1024x1024 .f32) (main_arg2 : FVec F S1024x1024 .f32) (main_arg3 : FVec F S4x4096x1024 .f32) (main_arg4 : FVec F S4x4096x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x4096x1024 .f32 := Host.absf main_arg3
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S1024x1024 : Shape := ⟨2, ![1024, 1024]⟩
abbrev S4x1024x1024 : Shape := ⟨3, ![4, 1024, 1024]⟩
abbrev S2x1024x1024 : Shape := ⟨3, ![2, 1024, 1024]⟩
abbrev S4x256x128 : Shape := ⟨3, ![4, 256, 128]⟩
abbrev S2 : Shape := ⟨1, ![2]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S256x128 : Shape := ⟨2, ![256, 128]⟩
abbrev S1x256x128 : Shape := ⟨3, ![1, 256, 128]⟩
abbrev S1x1024x128 : Shape := ⟨3, ![1, 1024, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S4x1024x1024, .f32⟩
  | .hbm, ⟨4, _⟩ => ⟨S4x1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S2x1024x1024, .f32⟩
  | .local _ .vmem, ⟨6, _⟩ => ⟨S2x1024x1024, .f32⟩
  | .local _ .vmem, ⟨7, _⟩ => ⟨S4x1024x1024, .bf16⟩
  | .local _ .vmem, ⟨8, _⟩ => ⟨S4x256x128, .f32⟩
  | .local _ .vmem, ⟨9, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_192 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_191 : BitVec 32 := 1#32
  let v237 : BitVec 32 := Scalar.muli v3 c1_i32_191
  let v238 : BitVec 32 := Scalar.addi c0_i32_192 v237
  v238.toNat
def k0_dev4 (d0 : Dev nD) : Nat :=
  let c0_i32_366 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_365 : BitVec 32 := 1#32
  let v447 : BitVec 32 := Scalar.muli v3 c1_i32_365
  let v448 : BitVec 32 := Scalar.addi c0_i32_366 v447
  v448.toNat
def k0_dev5 (d0 : Dev nD) : Nat :=
  let c0_i32_539 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_538 : BitVec 32 := 1#32
  let v657 : BitVec 32 := Scalar.muli v3 c1_i32_538
  let v658 : BitVec 32 := Scalar.addi c0_i32_539 v657
  v658.toNat
def k0_dev6 (d0 : Dev nD) : Nat :=
  let c0_i32_698 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_697 : BitVec 32 := 1#32
  let v855 : BitVec 32 := Scalar.muli v3 c1_i32_697
  let v856 : BitVec 32 := Scalar.addi c0_i32_698 v855
  v856.toNat
def k0_dev7 (d0 : Dev nD) : Nat :=
  let c0_i32_707 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_706 : BitVec 32 := 1#32
  let v865 : BitVec 32 := Scalar.muli v3 c1_i32_706
  let v866 : BitVec 32 := Scalar.addi c0_i32_707 v865
  v866.toNat
def k0_dev8 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_735 : BitVec 32 := 1#32
  let v891 : BitVec 32 := Scalar.muli v4 c1_i32_735
  let v892 : BitVec 32 := Scalar.addi c0_i32_736 v891
  v892.toNat
def k0_dev9 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_764 : BitVec 32 := 1#32
  let v917 : BitVec 32 := Scalar.muli v4 c1_i32_764
  let v918 : BitVec 32 := Scalar.addi c0_i32_765 v917
  v918.toNat
def k0_dev10 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_793 : BitVec 32 := 1#32
  let v943 : BitVec 32 := Scalar.muli v4 c1_i32_793
  let v944 : BitVec 32 := Scalar.addi c0_i32_794 v943
  v944.toNat
def k0_dev11 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_822 : BitVec 32 := 1#32
  let v969 : BitVec 32 := Scalar.muli v4 c1_i32_822
  let v970 : BitVec 32 := Scalar.addi c0_i32_823 v969
  v970.toNat
def k0_dev12 (d0 : Dev nD) : Nat :=
  let c0_i32_852 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_851 : BitVec 32 := 1#32
  let v995 : BitVec 32 := Scalar.muli v4 c1_i32_851
  let v996 : BitVec 32 := Scalar.addi c0_i32_852 v995
  v996.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S4x4096x1024 : Shape := ⟨3, ![4, 4096, 1024]⟩
abbrev S4x256x1024 : Shape := ⟨3, ![4, 256, 1024]⟩
abbrev S4x4096x8x128 : Shape := ⟨4, ![4, 4096, 8, 128]⟩
abbrev S4x256x8x128 : Shape := ⟨4, ![4, 256, 8, 128]⟩
abbrev S_ : Shape := ⟨0, ![]⟩
abbrev S4x8x256x1 : Shape := ⟨4, ![4, 8, 256, 1]⟩
abbrev S4x1024x8x128 : Shape := ⟨4, ![4, 1024, 8, 128]⟩
abbrev S4x8x256x1024 : Shape := ⟨4, ![4, 8, 256, 1024]⟩
abbrev S4x8x256 : Shape := ⟨3, ![4, 8, 256]⟩
abbrev S4x256x8x1 : Shape := ⟨4, ![4, 256, 8, 1]⟩
abbrev S4x8x128x256 : Shape := ⟨4, ![4, 8, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S4x4096x1024, .f32⟩
  | .hbm, ⟨4, _⟩ => ⟨S4x4096x1024, .f32⟩
  | .hbm, ⟨5, _⟩ => ⟨S4x256x1024, .f32⟩
  | .hbm, ⟨6, _⟩ => ⟨S4x4096x8x128, .f32⟩
  | .hbm, ⟨7, _⟩ => ⟨S4x4096x8x128, .f32⟩
  | .hbm, ⟨8, _⟩ => ⟨S4x256x1024, .f32⟩
  | .hbm, ⟨9, _⟩ => ⟨S4x256x8x128, .f32⟩
  | .hbm, ⟨10, _⟩ => ⟨S_, .f32⟩
  | .hbm, ⟨11, _⟩ => ⟨S4x256x8x128, .f32⟩
  | .hbm, ⟨12, _⟩ => ⟨S_, .f32⟩
  | .hbm, ⟨13, _⟩ => ⟨S4x8x256x1, .f32⟩
  | .hbm, ⟨14, _⟩ => ⟨S_, .f32⟩
  | .hbm, ⟨15, _⟩ => ⟨S4x8x256x1, .f32⟩
  | .hbm, ⟨16, _⟩ => ⟨S4x1024x8x128, .f32⟩
  | .hbm, ⟨17, _⟩ => ⟨S4x1024x8x128, .f32⟩
  | .hbm, ⟨18, _⟩ => ⟨S4x8x256x1024, .f32⟩
  | .hbm, ⟨19, _⟩ => ⟨S_, .f32⟩
  | .hbm, ⟨20, _⟩ => ⟨S4x8x256x1024, .f32⟩
  | .hbm, ⟨21, _⟩ => ⟨S4x8x256x1024, .f32⟩
  | .hbm, ⟨22, _⟩ => ⟨S_, .f32⟩
  | .hbm, ⟨23, _⟩ => ⟨S4x8x256, .f32⟩
  | .hbm, ⟨24, _⟩ => ⟨S4x8x256x1, .f32⟩
  | .hbm, ⟨25, _⟩ => ⟨S4x8x256x1, .f32⟩
  | .hbm, ⟨26, _⟩ => ⟨S4x8x256x1, .f32⟩
  | .hbm, ⟨27, _⟩ => ⟨S4x8x256x1, .f32⟩
  | .hbm, ⟨28, _⟩ => ⟨S4x8x256x1024, .f32⟩
  | .hbm, ⟨29, _⟩ => ⟨S4x8x256x1024, .f32⟩
  | .hbm, ⟨30, _⟩ => ⟨S4x8x256x1024, .f32⟩
  | .hbm, ⟨31, _⟩ => ⟨S4x8x256x1, .f32⟩
  | .hbm, ⟨32, _⟩ => ⟨S_, .f32⟩
  | .hbm, ⟨33, _⟩ => ⟨S4x8x256, .f32⟩
  | .hbm, ⟨34, _⟩ => ⟨S4x8x256x1, .f32⟩
  | .hbm, ⟨35, _⟩ => ⟨S4x8x256x1, .f32⟩
  | .hbm, ⟨36, _⟩ => ⟨S4x256x8x1, .f32⟩
  | .hbm, ⟨37, _⟩ => ⟨S4x256x8x128, .f32⟩
  | .hbm, ⟨38, _⟩ => ⟨S4x256x8x128, .f32⟩
  | .hbm, ⟨39, _⟩ => ⟨S4x8x128x256, .f32⟩
  | .hbm, ⟨40, _⟩ => ⟨S4x256x8x128, .f32⟩
  | .hbm, ⟨41, _⟩ => ⟨S4x256x8x128, .f32⟩
  | .hbm, ⟨42, _⟩ => ⟨S4x1024x8x128, .f32⟩
  | .hbm, ⟨43, _⟩ => ⟨S4x1024x8x128, .f32⟩
  | .hbm, ⟨44, _⟩ => ⟨S4x8x256x1024, .f32⟩
  | .hbm, ⟨45, _⟩ => ⟨S_, .f32⟩
  | .hbm, ⟨46, _⟩ => ⟨S4x8x256x1024, .f32⟩
  | .hbm, ⟨47, _⟩ => ⟨S4x8x256x1024, .f32⟩
  | .hbm, ⟨48, _⟩ => ⟨S_, .f32⟩
  | .hbm, ⟨49, _⟩ => ⟨S4x8x256, .f32⟩
  | .hbm, ⟨50, _⟩ => ⟨S4x8x256x1, .f32⟩
  | .hbm, ⟨51, _⟩ => ⟨S4x8x256x1, .f32⟩
  | .hbm, ⟨52, _⟩ => ⟨S4x8x256x1, .f32⟩
  | .hbm, ⟨53, _⟩ => ⟨S4x8x256x1, .f32⟩
  | .hbm, ⟨54, _⟩ => ⟨S4x8x256x1024, .f32⟩
  | .hbm, ⟨55, _⟩ => ⟨S4x8x256x1024, .f32⟩
  | .hbm, ⟨56, _⟩ => ⟨S4x8x256x1024, .f32⟩
  | .hbm, ⟨57, _⟩ => ⟨S4x8x256x1, .f32⟩
  | .hbm, ⟨58, _⟩ => ⟨S_, .f32⟩
  | .hbm, ⟨59, _⟩ => ⟨S4x8x256, .f32⟩
  | .hbm, ⟨60, _⟩ => ⟨S4x8x256x1, .f32⟩
  | .hbm, ⟨61, _⟩ => ⟨S4x8x256x1, .f32⟩
  | .hbm, ⟨62, _⟩ => ⟨S4x256x8x1, .f32⟩
  | .hbm, ⟨63, _⟩ => ⟨S4x256x8x128, .f32⟩
  | .hbm, ⟨64, _⟩ => ⟨S4x256x8x128, .f32⟩
  | .hbm, ⟨65, _⟩ => ⟨S4x8x128x256, .f32⟩
  | .hbm, ⟨66, _⟩ => ⟨S4x256x8x128, .f32⟩
  | .hbm, ⟨67, _⟩ => ⟨S4x256x8x128, .f32⟩
  | .hbm, ⟨68, _⟩ => ⟨S4x1024x8x128, .f32⟩
  | .hbm, ⟨69, _⟩ => ⟨S4x1024x8x128, .f32⟩
  | .hbm, ⟨70, _⟩ => ⟨S4x8x256x1024, .f32⟩
  | .hbm, ⟨71, _⟩ => ⟨S_, .f32⟩
  | .hbm, ⟨72, _⟩ => ⟨S4x8x256x1024, .f32⟩
  | .hbm, ⟨73, _⟩ => ⟨S4x8x256x1024, .f32⟩
  | .hbm, ⟨74, _⟩ => ⟨S_, .f32⟩
  | .hbm, ⟨75, _⟩ => ⟨S4x8x256, .f32⟩
  | .hbm, ⟨76, _⟩ => ⟨S4x8x256x1, .f32⟩
  | .hbm, ⟨77, _⟩ => ⟨S4x8x256x1, .f32⟩
  | .hbm, ⟨78, _⟩ => ⟨S4x8x256x1, .f32⟩
  | .hbm, ⟨79, _⟩ => ⟨S4x8x256x1, .f32⟩
  | .hbm, ⟨80, _⟩ => ⟨S4x8x256x1024, .f32⟩
  | .hbm, ⟨81, _⟩ => ⟨S4x8x256x1024, .f32⟩
  | .hbm, ⟨82, _⟩ => ⟨S4x8x256x1024, .f32⟩
  | .hbm, ⟨83, _⟩ => ⟨S4x8x256x1, .f32⟩
  | .hbm, ⟨84, _⟩ => ⟨S_, .f32⟩
  | .hbm, ⟨85, _⟩ => ⟨S4x8x256, .f32⟩
  | .hbm, ⟨86, _⟩ => ⟨S4x8x256x1, .f32⟩
  | .hbm, ⟨87, _⟩ => ⟨S4x8x256x1, .f32⟩
  | .hbm, ⟨88, _⟩ => ⟨S4x256x8x1, .f32⟩
  | .hbm, ⟨89, _⟩ => ⟨S4x256x8x128, .f32⟩
  | .hbm, ⟨90, _⟩ => ⟨S4x256x8x128, .f32⟩
  | .hbm, ⟨91, _⟩ => ⟨S4x8x128x256, .f32⟩
  | .hbm, ⟨92, _⟩ => ⟨S4x256x8x128, .f32⟩
  | .hbm, ⟨93, _⟩ => ⟨S4x256x8x128, .f32⟩
  | .hbm, ⟨94, _⟩ => ⟨S4x1024x8x128, .f32⟩
  | .hbm, ⟨95, _⟩ => ⟨S4x1024x8x128, .f32⟩
  | .hbm, ⟨96, _⟩ => ⟨S4x8x256x1024, .f32⟩
  | .hbm, ⟨97, _⟩ => ⟨S_, .f32⟩
  | .hbm, ⟨98, _⟩ => ⟨S4x8x256x1024, .f32⟩
  | .hbm, ⟨99, _⟩ => ⟨S4x8x256x1024, .f32⟩
  | .hbm, ⟨100, _⟩ => ⟨S_, .f32⟩
  | .hbm, ⟨101, _⟩ => ⟨S4x8x256, .f32⟩
  | .hbm, ⟨102, _⟩ => ⟨S4x8x256x1, .f32⟩
  | .hbm, ⟨103, _⟩ => ⟨S4x8x256x1, .f32⟩
  | .hbm, ⟨104, _⟩ => ⟨S4x8x256x1, .f32⟩
  | .hbm, ⟨105, _⟩ => ⟨S4x8x256x1, .f32⟩
  | .hbm, ⟨106, _⟩ => ⟨S4x8x256x1024, .f32⟩
  | .hbm, ⟨107, _⟩ => ⟨S4x8x256x1024, .f32⟩
  | .hbm, ⟨108, _⟩ => ⟨S4x8x256x1024, .f32⟩
  | .hbm, ⟨109, _⟩ => ⟨S4x8x256x1, .f32⟩
  | .hbm, ⟨110, _⟩ => ⟨S_, .f32⟩
  | .hbm, ⟨111, _⟩ => ⟨S4x8x256, .f32⟩
  | .hbm, ⟨112, _⟩ => ⟨S4x8x256x1, .f32⟩
  | .hbm, ⟨113, _⟩ => ⟨S4x8x256x1, .f32⟩
  | .hbm, ⟨114, _⟩ => ⟨S4x256x8x1, .f32⟩
  | .hbm, ⟨115, _⟩ => ⟨S4x256x8x128, .f32⟩
  | .hbm, ⟨116, _⟩ => ⟨S4x256x8x128, .f32⟩
  | .hbm, ⟨117, _⟩ => ⟨S4x8x128x256, .f32⟩
  | .hbm, ⟨118, _⟩ => ⟨S4x256x8x128, .f32⟩
  | .hbm, ⟨119, _⟩ => ⟨S4x256x8x128, .f32⟩
  | .hbm, ⟨120, _⟩ => ⟨S4x256x8x1, .f32⟩
  | .hbm, ⟨121, _⟩ => ⟨S4x256x8x128, .f32⟩
  | .hbm, ⟨122, _⟩ => ⟨S4x256x8x128, .f32⟩
  | .hbm, ⟨123, _⟩ => ⟨S4x256x1024, .f32⟩
  | .hbm, ⟨124, _⟩ => ⟨S4x256x1024, .f32⟩
  | .hbm, ⟨125, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_cst_12 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Shapes.lean ====
/-
# The kernel's program, written once per repeated step

The kernel unrolls four batches of eight heads each. This module names the views, the semaphores and the
arithmetic of one step at a symbolic batch `b` and head `h`, and writes the body as the sequence of those steps;
`Program.lean` shows that the printed body is that sequence.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## Rectangles -/

theorem inbQ (b : Fin 4) (h : Fin 8) : ∀ a, (![256 * b.val, 128 * h.val] : Fin 2 → Nat) a + S256x128.size a ≤ S1024x1024.size a := by
  revert b h; decide
theorem inbRow (b : Fin 4) : ∀ a, (![256 * b.val, 0] : Fin 2 → Nat) a + S256x1024.size a ≤ S1024x1024.size a := by
  revert b; decide
theorem inbSlot2 (s : Fin 2) : ∀ a, (![s.val, 0, 0] : Fin 3 → Nat) a + S1x1024x1024.size a ≤ S2x1024x1024.size a := by
  revert s; decide
theorem inbSlot4 (b : Fin 4) : ∀ a, (![b.val, 0, 0] : Fin 3 → Nat) a + S1x1024x1024.size a ≤ S4x1024x1024.size a := by
  revert b; decide
theorem inbKV (s : Fin 2) (h : Fin 8) : ∀ a, (![s.val, 0, 128 * h.val] : Fin 3 → Nat) a + S1x1024x128.size a ≤ S2x1024x1024.size a := by
  revert s h; decide
theorem inbO (b : Fin 4) (h : Fin 8) : ∀ a, (![0, 256 * b.val, 128 * h.val] : Fin 3 → Nat) a + S1x256x128.size a ≤ S4x1024x1024.size a := by
  revert b h; decide
theorem inbL (b : Fin 4) (h : Fin 8) : ∀ a, (![0, 0, 8 * b.val + h.val] : Fin 3 → Nat) a + S1x256x1.size a ≤ S4x256x128.size a := by
  revert b h; decide
theorem inbSlab (s b : Fin 4) : ∀ a, (![s.val, 256 * b.val, 0] : Fin 3 → Nat) a + S1x256x1024.size a ≤ S4x1024x1024.size a := by
  revert s b; decide
theorem inbLs (s : Fin 4) : ∀ a, (![s.val, 0, 0] : Fin 3 → Nat) a + S1x256x128.size a ≤ S4x256x128.size a := by
  revert s; decide

abbrev rAll : Rect S1024x1024 := Rect.unit (s := S1024x1024) ![0, 0] S1024x1024.size inb_S1024x1024_S1024x1024_0_0
abbrev rQ (b : Fin 4) (h : Fin 8) : Rect S1024x1024 := Rect.unit (s := S1024x1024) ![256 * b.val, 128 * h.val] S256x128.size (inbQ b h)
abbrev rRow (b : Fin 4) : Rect S1024x1024 := Rect.unit (s := S1024x1024) ![256 * b.val, 0] S256x1024.size (inbRow b)
abbrev rKV (s : Fin 2) (h : Fin 8) : Rect S2x1024x1024 := Rect.unit (s := S2x1024x1024) ![s.val, 0, 128 * h.val] S1x1024x128.size (inbKV s h)
abbrev rO (b : Fin 4) (h : Fin 8) : Rect S4x1024x1024 := Rect.unit (s := S4x1024x1024) ![0, 256 * b.val, 128 * h.val] S1x256x128.size (inbO b h)
abbrev rL (b : Fin 4) (h : Fin 8) : Rect S4x256x128 := Rect.unit (s := S4x256x128) ![0, 0, 8 * b.val + h.val] S1x256x1.size (inbL b h)
abbrev rSlab (s b : Fin 4) : Rect S4x1024x1024 := Rect.unit (s := S4x1024x1024) ![s.val, 256 * b.val, 0] S1x256x1024.size (inbSlab s b)
abbrev rLs (s : Fin 4) : Rect S4x256x128 := Rect.unit (s := S4x256x128) ![s.val, 0, 0] S1x256x128.size (inbLs s)

theorem packedO (b : Fin 4) (h : Fin 8) : (rO b h).PackedRows (EltTy.packing .bf16) := by revert b h; decide
theorem packedSlab (s b : Fin 4) : (rSlab s b).PackedRows (EltTy.packing .bf16) := by revert s b; decide
theorem wordsSlab (s b : Fin 4) : (rSlab s b).WholeWords (EltTy.packing .bf16) := by revert s b; decide
theorem slicesT (h : Fin 8) : S256x1024.Slices ![0, 128 * h.val] S256x128 := by revert h; decide
theorem slicesI (b : Fin 4) (h : Fin 8) : S256x128.Slices ![0, 8 * b.val + h.val] S256x1 := by revert b h; decide

/-! ## Buffers and views -/

abbrev xM : Memref sig .tc .vmem S1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1024x1024 .f32 := Memref.whole cc0_stg3_0
abbrev kM : Memref sig .tc .hbm S4x1024x1024 .f32 := Memref.whole main_arg3
abbrev vM : Memref sig .tc .hbm S4x1024x1024 .f32 := Memref.whole main_arg4
abbrev qM : Memref sig .tc .vmem S1024x1024 .bf16 := Memref.whole cc0_scratch0
abbrev kbM : Memref sig .tc .vmem S2x1024x1024 .f32 := Memref.whole cc0_scratch1
abbrev vbM : Memref sig .tc .vmem S2x1024x1024 .f32 := Memref.whole cc0_scratch2
abbrev coM : Memref sig .tc .vmem S4x1024x1024 .bf16 := Memref.whole cc0_scratch3
abbrev clM : Memref sig .tc .vmem S4x256x128 .f32 := Memref.whole cc0_scratch4
abbrev accM : Memref sig .tc .vmem S1024x1024 .f32 := Memref.whole cc0_scratch5

abbrev coW : (coM : Memref sig .tc .vmem S4x1024x1024 .bf16).IsWhole := Memref.isWhole_whole _

/-- Batch `b` of the keys (of the values) in the device's memory. -/
abbrev kSrc (b : Fin 4) : Memref sig .tc .hbm S1024x1024 .f32 :=
  (kM.slice (Rect.unit (s := S4x1024x1024) ![b.val, 0, 0] S1x1024x1024.size (inbSlot4 b)) (fun _ => rfl)).squeeze S1024x1024 squeezes_S1x1024x1024_S1024x1024
abbrev vSrc (b : Fin 4) : Memref sig .tc .hbm S1024x1024 .f32 :=
  (vM.slice (Rect.unit (s := S4x1024x1024) ![b.val, 0, 0] S1x1024x1024.size (inbSlot4 b)) (fun _ => rfl)).squeeze S1024x1024 squeezes_S1x1024x1024_S1024x1024
/-- Slot `s` of the key (value) double buffer. -/
abbrev kDst (s : Fin 2) : Memref sig .tc .vmem S1024x1024 .f32 :=
  (kbM.slice (Rect.unit (s := S2x1024x1024) ![s.val, 0, 0] S1x1024x1024.size (inbSlot2 s)) (fun _ => rfl)).squeeze S1024x1024 squeezes_S1x1024x1024_S1024x1024
abbrev vDst (s : Fin 2) : Memref sig .tc .vmem S1024x1024 .f32 :=
  (vbM.slice (Rect.unit (s := S2x1024x1024) ![s.val, 0, 0] S1x1024x1024.size (inbSlot2 s)) (fun _ => rfl)).squeeze S1024x1024 squeezes_S1x1024x1024_S1024x1024
/-- The rows of batch `b` of slot `s` of the exchanged sums, and slot `s` of the exchanged denominators. -/
abbrev slab (s b : Fin 4) : Memref sig .tc .vmem S256x1024 .bf16 :=
  (coM.slice (rSlab s b) (fun _ => rfl)).squeeze S256x1024 squeezes_S1x256x1024_S256x1024
abbrev lslot (s : Fin 4) : Memref sig .tc .vmem S256x128 .f32 :=
  (clM.slice (rLs s) (fun _ => rfl)).squeeze S256x128 squeezes_S1x256x128_S256x128

/-! ## Semaphores -/

abbrev barS : Sem sig := (SemArray.scalar (sig.barrier 0 rfl) : Sems sig S_).sem
abbrev dsem (i : ℕ) (h : i < 28) : DmaSem sig := ⟨i, h⟩
/-- The kernel's own semaphores: two for keys, two for values, then the four of each exchange of sums
    (departures, arrivals, twice) and the two of each exchange of denominators. -/
abbrev kSem (s : Fin 2) : DmaSem sig := dsem (4 + s.val) (by omega)
abbrev vSem (s : Fin 2) : DmaSem sig := dsem (6 + s.val) (by omega)
abbrev s1Sem (b : Fin 4) : DmaSem sig := dsem (8 + b.val) (by omega)
abbrev r1Sem (b : Fin 4) : DmaSem sig := dsem (12 + b.val) (by omega)
abbrev s2Sem (b : Fin 4) : DmaSem sig := dsem (16 + b.val) (by omega)
abbrev r2Sem (b : Fin 4) : DmaSem sig := dsem (20 + b.val) (by omega)
abbrev lsSem (r : Fin 2) : DmaSem sig := dsem (24 + r.val) (by omega)
abbrev lrSem (r : Fin 2) : DmaSem sig := dsem (26 + r.val) (by omega)

/-! ## The arithmetic of a step -/

/-- The projected queries. -/
abbrev pQ (x wq : Vec F S1024x1024 .f32) : FVec F S1024x1024 .bf16 := k0_pay2 (k0_pay1 x) wq
/-- One head's unnormalised output and denominators. -/
abbrev pO (q : Vec F S256x128 .bf16) (k v : Vec F S1x1024x128 .f32) : FVec F S1x256x128 .bf16 := k0_pay5 q k v
abbrev pL (q : Vec F S256x128 .bf16) (k : Vec F S1x1024x128 .f32) : FVec F S1x256x1 .f32 := k0_pay6 q k
/-- The sums of two devices' contributions. -/
abbrev pML (a b : Vec F S1x256x128 .f32) : FVec F S1x256x128 .f32 := k0_pay129 a b
abbrev pMO (a b : Vec F S1x256x1024 .bf16) : FVec F S1x256x1024 .bf16 := k0_pay130 a b
/-- The reciprocal denominators, the total of a batch, one head of it normalised, and the output rows. -/
abbrev pInv (a b : Vec F S1x256x128 .f32) : FVec F S256x128 .f32 := k0_pay134 a b
abbrev pTot (a b : Vec F S1x256x1024 .bf16) : FVec F S256x1024 .f32 := k0_pay135 a b
def pAcc (b : Fin 4) (h : Fin 8) (inv : FVec F S256x128 .f32) (tot : FVec F S256x1024 .f32) : FVec F S256x128 .f32 :=
  shapeCast S256x128 (mulf (extractStridedSlice S256x128 ![0, 128 * h.val] tot (slicesT h))
    (broadcastTo S256x128 (extractStridedSlice S256x1 ![0, 8 * b.val + h.val] inv (slicesI b h)) broadcasts_S256x1_S256x128)) shapeCasts_S256x128_S256x128
abbrev pOut (a : Vec F S256x1024 .f32) (wo : Vec F S1024x1024 .f32) : FVec F S256x1024 .f32 := k0_pay148 a wo

/-! ## The steps -/

variable (F) in
abbrev P : Type → Type 1 := Prog (TpuEff nD τ sig (Elt F) Λ₀ .tc)

/-- Start batch `b`'s keys and values into slot `s`. -/
def startLoad (b : Fin 4) (s : Fin 2) : P F PUnit := do
  Prog.lift (.enqueueDma (kSrc b) (.here (kDst s)) (.dma (kSem s)) ((View.wordExact_bits rfl).reshape _ _) ((View.wordExact_bits rfl).reshape _ _) ⟨Or.inl rfl, trivial⟩)
  Prog.lift (.enqueueDma (vSrc b) (.here (vDst s)) (.dma (vSem s)) ((View.wordExact_bits rfl).reshape _ _) ((View.wordExact_bits rfl).reshape _ _) ⟨Or.inl rfl, trivial⟩)

/-- Wait for them. -/
def waitLoad (b : Fin 4) (s : Fin 2) : P F PUnit := do
  Prog.lift (.waitDma2 (kSem s) (kSrc b) (kDst s) ((View.wordExact_bits rfl).reshape _ _) ((View.wordExact_bits rfl).reshape _ _))
  Prog.lift (.waitDma2 (vSem s) (vSrc b) (vDst s) ((View.wordExact_bits rfl).reshape _ _) ((View.wordExact_bits rfl).reshape _ _))

/-- The projected queries and the zeroed denominators. -/
def prep : P F PUnit := do
  let x : Vec F S1024x1024 .f32 ← Prog.lift (.load xM rAll.toLoadRect (View.loadsAt_vmem h_S1024x1024))
  let wq : Vec F S1024x1024 .f32 ← Prog.lift (.load wqM rAll.toLoadRect (View.loadsAt_vmem h_S1024x1024))
  let _ : Vec F S1024x1024 .bf16 ← Prog.lift (.load qM rAll.toLoadRect (View.loadsAt_vmem h_S1024x1024))
  Prog.lift (.store qM rAll (pQ x wq) Finset.univ (View.stores_vmem h_S1024x1024 ((Memref.isWhole_whole _).storeExact_slice rfl _ packedbf16_S1024x1024_S1024x1024_0_0) (fun _ => rfl)) (.inl rfl))
  let _ : Vec F S1x256x128 .f32 ← Prog.lift (.load clM (rLs 0).toLoadRect (View.loadsAt_vmem h_S1x256x128))
  Prog.lift (.store clM (rLs 0) (k0_pay3 (F := F)) Finset.univ (View.stores_vmem_bits_univ h_S1x256x128 rfl) (.inl rfl))

/-- Head `h` of batch `b`, its keys and values in slot `s`. -/
def head (s : Fin 2) (b : Fin 4) (h : Fin 8) : P F PUnit := do
  let q : Vec F S256x128 .bf16 ← Prog.lift (.load qM (rQ b h).toLoadRect (View.loadsAt_vmem h_S256x128))
  let k : Vec F S1x1024x128 .f32 ← Prog.lift (.load kbM (rKV s h).toLoadRect (View.loadsAt_vmem h_S1x1024x128))
  let v : Vec F S1x1024x128 .f32 ← Prog.lift (.load vbM (rKV s h).toLoadRect (View.loadsAt_vmem h_S1x1024x128))
  let _ : Vec F S1x256x128 .bf16 ← Prog.lift (.load coM (rO b h).toLoadRect (View.loadsAt_vmem h_S1x256x128))
  Prog.lift (.store coM (rO b h) (pO q k v) Finset.univ (View.stores_vmem h_S1x256x128 (coW.storeExact_slice rfl _ (packedO b h)) (fun _ => rfl)) (.inl rfl))
  let _ : Vec F S1x256x1 .f32 ← Prog.lift (.load clM (rL b h).toLoadRect (View.loadsAt_vmem h_S1x256x1))
  Prog.lift (.store clM (rL b h) (pL q k) Finset.univ (View.stores_vmem_bits_univ h_S1x256x1 rfl) (.inl rfl))

def heads (s : Fin 2) (b : Fin 4) : P F PUnit := do
  head s b 0; head s b 1; head s b 2; head s b 3; head s b 4; head s b 5; head s b 6; head s b 7

/-- Batch `b`'s rows of slot `s` to slot `s'` of device `d`, and the denominators of slot `s` to slot `s'`. -/
def sendO (d : Dev nD) (s s' b : Fin 4) (sS sR : DmaSem sig) : P F PUnit :=
  Prog.lift (.enqueueDma (slab s b) (.remote (Dev.tc d) (slab s' b) (.dma sS)) (.dma sR)
    ((coW.wordExact_slice rfl _ (wordsSlab s b)).reshape _ _) ((coW.wordExact_slice rfl _ (wordsSlab s' b)).reshape _ _) ⟨⟨rfl, Or.inl rfl⟩, trivial⟩)
def sendL (d : Dev nD) (s s' : Fin 4) (sS sR : DmaSem sig) : P F PUnit :=
  Prog.lift (.enqueueDma (lslot s) (.remote (Dev.tc d) (lslot s') (.dma sS)) (.dma sR)
    ((View.wordExact_bits rfl).reshape _ _) ((View.wordExact_bits rfl).reshape _ _) ⟨⟨rfl, Or.inl rfl⟩, trivial⟩)

/-- Wait on one of their semaphores, for the bytes of the rows of slot `s'` (of slot `s'`). -/
def waitO (sm : DmaSem sig) (s s' b : Fin 4) : P F PUnit :=
  Prog.lift (.waitDma2 sm (slab s b) (slab s' b) ((coW.wordExact_slice rfl _ (wordsSlab s b)).reshape _ _) ((coW.wordExact_slice rfl _ (wordsSlab s' b)).reshape _ _))
def waitL (sm : DmaSem sig) (s s' : Fin 4) : P F PUnit :=
  Prog.lift (.waitDma2 sm (lslot s) (lslot s') ((View.wordExact_bits rfl).reshape _ _) ((View.wordExact_bits rfl).reshape _ _))

/-- Add slots 0 and 1 into slot 2: of the denominators, and of batch `b`'s rows. -/
def mergeL : P F PUnit := do
  let a : Vec F S1x256x128 .f32 ← Prog.lift (.load clM (rLs 0).toLoadRect (View.loadsAt_vmem h_S1x256x128))
  let r : Vec F S1x256x128 .f32 ← Prog.lift (.load clM (rLs 1).toLoadRect (View.loadsAt_vmem h_S1x256x128))
  let _ : Vec F S1x256x128 .f32 ← Prog.lift (.load clM (rLs 2).toLoadRect (View.loadsAt_vmem h_S1x256x128))
  Prog.lift (.store clM (rLs 2) (pML a r) Finset.univ (View.stores_vmem_bits_univ h_S1x256x128 rfl) (.inl rfl))
def mergeO (b : Fin 4) : P F PUnit := do
  let a : Vec F S1x256x1024 .bf16 ← Prog.lift (.load coM (rSlab 0 b).toLoadRect (View.loadsAt_vmem h_S1x256x1024))
  let r : Vec F S1x256x1024 .bf16 ← Prog.lift (.load coM (rSlab 1 b).toLoadRect (View.loadsAt_vmem h_S1x256x1024))
  let _ : Vec F S1x256x1024 .bf16 ← Prog.lift (.load coM (rSlab 2 b).toLoadRect (View.loadsAt_vmem h_S1x256x1024))
  Prog.lift (.store coM (rSlab 2 b) (pMO a r) Finset.univ (View.stores_vmem h_S1x256x1024 (coW.storeExact_slice rfl _ (packedSlab 2 b)) (fun _ => rfl)) (.inl rfl))

/-- The reciprocal denominators. -/
def recip : P F (FVec F S256x128 .f32) := do
  let a : Vec F S1x256x128 .f32 ← Prog.lift (.load clM (rLs 2).toLoadRect (View.loadsAt_vmem h_S1x256x128))
  let r : Vec F S1x256x128 .f32 ← Prog.lift (.load clM (rLs 3).toLoadRect (View.loadsAt_vmem h_S1x256x128))
  pure (pInv a r)

/-- Head `h` of batch `b` normalised. -/
def norm (inv : FVec F S256x128 .f32) (tot : FVec F S256x1024 .f32) (b : Fin 4) (h : Fin 8) : P F PUnit := do
  let _ : Vec F S256x128 .f32 ← Prog.lift (.load accM (rQ b h).toLoadRect (View.loadsAt_vmem h_S256x128))
  Prog.lift (.store accM (rQ b h) (pAcc b h inv tot) Finset.univ (View.stores_vmem_bits_univ h_S256x128 rfl) (.inl rfl))

/-- Batch `b`'s output rows. -/
def project (b : Fin 4) : P F PUnit := do
  let a : Vec F S256x1024 .f32 ← Prog.lift (.load accM (rRow b).toLoadRect (View.loadsAt_vmem h_S256x1024))
  let wo : Vec F S1024x1024 .f32 ← Prog.lift (.load woM rAll.toLoadRect (View.loadsAt_vmem h_S1024x1024))
  let _ : Vec F S256x1024 .f32 ← Prog.lift (.load outM (rRow b).toLoadRect (View.loadsAt_vmem h_S256x1024))
  Prog.lift (.store outM (rRow b) (pOut a wo) Finset.univ (View.stores_vmem_bits_univ h_S256x1024 rfl) (.inl rfl))

def finish (inv : FVec F S256x128 .f32) (b : Fin 4) : P F PUnit := do
  let a : Vec F S1x256x1024 .bf16 ← Prog.lift (.load coM (rSlab 2 b).toLoadRect (View.loadsAt_vmem h_S1x256x1024))
  let r : Vec F S1x256x1024 .bf16 ← Prog.lift (.load coM (rSlab 3 b).toLoadRect (View.loadsAt_vmem h_S1x256x1024))
  norm inv (pTot a r) b 0; norm inv (pTot a r) b 1; norm inv (pTot a r) b 2; norm inv (pTot a r) b 3
  norm inv (pTot a r) b 4; norm inv (pTot a r) b 5; norm inv (pTot a r) b 6; norm inv (pTot a r) b 7
  project b

/-! ## The body -/

/-- The handshake. -/
def shake (c : Dev nD) : P F PUnit := do
  semSignalWord (⟨k0_dev1 c, k0_dev1_lt c⟩ : Dev nD) barS 1#32
  semSignalWord (⟨k0_dev2 c, k0_dev2_lt c⟩ : Dev nD) barS 1#32
  semWaitWord barS 2#32

def first (c : Dev nD) : P F PUnit := do
  waitLoad 0 0; startLoad 1 1; heads 0 0; sendO ⟨k0_dev3 c, k0_dev3_lt c⟩ 0 1 0 (s1Sem 0) (r1Sem 0)
  waitLoad 1 1; startLoad 2 0; heads 1 1; sendO ⟨k0_dev4 c, k0_dev4_lt c⟩ 0 1 1 (s1Sem 1) (r1Sem 1)
  waitLoad 2 0; startLoad 3 1; heads 0 2; sendO ⟨k0_dev5 c, k0_dev5_lt c⟩ 0 1 2 (s1Sem 2) (r1Sem 2)
  waitLoad 3 1; heads 1 3; sendO ⟨k0_dev6 c, k0_dev6_lt c⟩ 0 1 3 (s1Sem 3) (r1Sem 3)

def second (c : Dev nD) : P F PUnit := do
  sendL ⟨k0_dev7 c, k0_dev7_lt c⟩ 0 1 (lsSem 0) (lrSem 0)
  waitL (lrSem 0) 0 1; mergeL; sendL ⟨k0_dev8 c, k0_dev8_lt c⟩ 2 3 (lsSem 1) (lrSem 1)
  waitO (r1Sem 0) 0 1 0; mergeO 0; sendO ⟨k0_dev9 c, k0_dev9_lt c⟩ 2 3 0 (s2Sem 0) (r2Sem 0)
  waitO (r1Sem 1) 0 1 1; mergeO 1; sendO ⟨k0_dev10 c, k0_dev10_lt c⟩ 2 3 1 (s2Sem 1) (r2Sem 1)
  waitO (r1Sem 2) 0 1 2; mergeO 2; sendO ⟨k0_dev11 c, k0_dev11_lt c⟩ 2 3 2 (s2Sem 2) (r2Sem 2)
  waitO (r1Sem 3) 0 1 3; mergeO 3; sendO ⟨k0_dev12 c, k0_dev12_lt c⟩ 2 3 3 (s2Sem 3) (r2Sem 3)

def third : P F PUnit := do
  waitL (lrSem 1) 2 3
  let inv ← recip
  waitO (r2Sem 0) 2 3 0; finish inv 0
  waitO (r2Sem 1) 2 3 1; finish inv 1
  waitO (r2Sem 2) 2 3 2; finish inv 2
  waitO (r2Sem 3) 2 3 3; finish inv 3

/-- The departures, waited for last. -/
def drain : P F PUnit := do
  waitO (s1Sem 0) 1 0 0; waitO (s1Sem 1) 1 0 1; waitO (s1Sem 2) 1 0 2; waitO (s1Sem 3) 1 0 3
  waitL (lsSem 0) 1 0; waitL (lsSem 1) 3 2
  waitO (s2Sem 0) 3 2 0; waitO (s2Sem 1) 3 2 1; waitO (s2Sem 2) 3 2 2; waitO (s2Sem 3) 3 2 3

def body : P F PUnit := do
  let c : Dev nD ← Prog.lift .deviceId
  shake c; startLoad 0 0; prep; first c; second c; third; drain

end Cert.KernelIdealProof

end
-- ==== Proof.Contents.lean ====
/-
# What the buffers hold

Every value the body computes, as a closed form of the devices' arguments. The exchanged sums `Co` and the exchanged
denominators `Cl` are given as the contents the two buffers hold once everything has arrived: slot 0 is the device's own
part, slot 1 its first partner's, slot 2 the sum of the two, slot 3 the second partner's sum. A step of the body that
writes a part of a buffer is then the statement that the part agrees with the closed form.
-/
module

public import proofs.«01_k».proof.Proof.Shapes
public import Idealize.ShloMosaic.Lib.ViewIndex
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The partners -/

set_option backward.proofsInPublic true in
/-- The first partner of a device, `3 - c`, and the second, `c xor 1`. -/
def p1 (c : Dev nD) : Dev nD := ⟨3 - c.val, Nat.lt_of_le_of_lt (Nat.sub_le _ _) (by decide)⟩
def p2 (c : Dev nD) : Dev nD := ![1, 0, 3, 2] c

theorem p1_p1 (c : Dev nD) : p1 (p1 c) = c := by revert c; decide
theorem p2_p2 (c : Dev nD) : p2 (p2 c) = c := by revert c; decide
theorem p1_ne (c : Dev nD) : p1 c ≠ c := by revert c; decide
theorem p2_ne (c : Dev nD) : p2 c ≠ c := by revert c; decide
theorem p1_ne_p2 (c : Dev nD) : p1 c ≠ p2 c := by revert c; decide

theorem dev1_eq (c : Dev nD) : (⟨k0_dev1 c, k0_dev1_lt c⟩ : Dev nD) = p1 c := Fin.ext (k0_dev1_eq c)
theorem dev2_eq (c : Dev nD) : (⟨k0_dev2 c, k0_dev2_lt c⟩ : Dev nD) = p2 c := by revert c; decide
theorem dev3_eq (c : Dev nD) : (⟨k0_dev3 c, k0_dev3_lt c⟩ : Dev nD) = p1 c := Fin.ext (k0_dev3_eq c)
theorem dev4_eq (c : Dev nD) : (⟨k0_dev4 c, k0_dev4_lt c⟩ : Dev nD) = p1 c := Fin.ext (k0_dev4_eq c)
theorem dev5_eq (c : Dev nD) : (⟨k0_dev5 c, k0_dev5_lt c⟩ : Dev nD) = p1 c := Fin.ext (k0_dev5_eq c)
theorem dev6_eq (c : Dev nD) : (⟨k0_dev6 c, k0_dev6_lt c⟩ : Dev nD) = p1 c := Fin.ext (k0_dev6_eq c)
theorem dev7_eq (c : Dev nD) : (⟨k0_dev7 c, k0_dev7_lt c⟩ : Dev nD) = p1 c := Fin.ext (k0_dev7_eq c)
theorem dev8_eq (c : Dev nD) : (⟨k0_dev8 c, k0_dev8_lt c⟩ : Dev nD) = p2 c := by revert c; decide
theorem dev9_eq (c : Dev nD) : (⟨k0_dev9 c, k0_dev9_lt c⟩ : Dev nD) = p2 c := by revert c; decide
theorem dev10_eq (c : Dev nD) : (⟨k0_dev10 c, k0_dev10_lt c⟩ : Dev nD) = p2 c := by revert c; decide
theorem dev11_eq (c : Dev nD) : (⟨k0_dev11 c, k0_dev11_lt c⟩ : Dev nD) = p2 c := by revert c; decide
theorem dev12_eq (c : Dev nD) : (⟨k0_dev12 c, k0_dev12_lt c⟩ : Dev nD) = p2 c := by revert c; decide

/-! ## Closed forms -/

/-- The index of shape `s` with the given coordinates (each taken modulo its extent). -/
def ix (s : Shape) (hs : ∀ a, 0 < s.size a) (f : Fin s.rank → ℕ) : s.Idx := fun a => ⟨f a % s.size a, Nat.mod_lt _ (hs a)⟩
abbrev ixH (r d : ℕ) : S1x256x128.Idx := ix S1x256x128 (by decide) ![0, r, d]
abbrev ixD (r : ℕ) : S1x256x1.Idx := ix S1x256x1 (by decide) ![0, r, 0]
abbrev ixS (r d : ℕ) : S1x256x1024.Idx := ix S1x256x1024 (by decide) ![0, r, d]
abbrev ixT (r d : ℕ) : S256x128.Idx := ix S256x128 (by decide) ![r, d]
abbrev ixR (r d : ℕ) : S256x1024.Idx := ix S256x1024 (by decide) ![r, d]

/-- The batch of a row and the head of a column. -/
def rb (r : ℕ) : Fin 4 := ⟨r / 256 % 4, Nat.mod_lt _ (by decide)⟩
def ch (d : ℕ) : Fin 8 := ⟨d / 128 % 8, Nat.mod_lt _ (by decide)⟩
/-- The batch and the head of a column of denominators. -/
def lb (d : ℕ) : Fin 4 := ⟨d / 8 % 4, Nat.mod_lt _ (by decide)⟩
def lh (d : ℕ) : Fin 8 := ⟨d % 8, Nat.mod_lt _ (by decide)⟩

variable (F) in
/-- Every device's arguments: the activations and the two weights, and its part of the keys and of the values. -/
structure Args where
  x : Dev nD → Vec F S1024x1024 .f32
  wq : Dev nD → Vec F S1024x1024 .f32
  wo : Dev nD → Vec F S1024x1024 .f32
  k : Dev nD → Vec F S4x1024x1024 .f32
  v : Dev nD → Vec F S4x1024x1024 .f32

theorem inbK4 (b : Fin 4) (h : Fin 8) : ∀ a, (![b.val, 0, 128 * h.val] : Fin 3 → Nat) a + S1x1024x128.size a ≤ S4x1024x1024.size a := by
  revert b h; decide
/-- Head `h` of batch `b` of a device's keys (values). -/
abbrev rK4 (b : Fin 4) (h : Fin 8) : Rect S4x1024x1024 := Rect.unit (s := S4x1024x1024) ![b.val, 0, 128 * h.val] S1x1024x128.size (inbK4 b h)

variable (A : Args F) (c : Dev nD)

def qA : FVec F S1024x1024 .bf16 := pQ (A.x c) (A.wq c)
def qB (b : Fin 4) (h : Fin 8) : Vec F S256x128 .bf16 := fun j => qA A c ((rQ b h).emb j)
def kB (b : Fin 4) (h : Fin 8) : Vec F S1x1024x128 .f32 := fun j => A.k c ((rK4 b h).emb j)
def vB (b : Fin 4) (h : Fin 8) : Vec F S1x1024x128 .f32 := fun j => A.v c ((rK4 b h).emb j)
def oB (b : Fin 4) (h : Fin 8) : FVec F S1x256x128 .bf16 := pO (qB A c b h) (kB A c b h) (vB A c b h)
def lB (b : Fin 4) (h : Fin 8) : FVec F S1x256x1 .f32 := pL (qB A c b h) (kB A c b h)

/-- The device's own sums and denominators, at a row and a column. -/
def oLn (r d : ℕ) : Elt F .bf16 := oB A c (rb r) (ch d) (ixH (r % 256) (d % 128))
def lLn (r d : ℕ) : Elt F .f32 := if d < 32 then lB A c (lb d) (lh d) (ixD r) else k0_pay3 (F := F) (ixH r d)

/-- The rows of batch `b` of the sums, and the denominators, as the blocks the body loads. -/
def oBlk (g : ℕ → ℕ → Elt F .bf16) (b : Fin 4) : Vec F S1x256x1024 .bf16 := fun j => g (256 * b.val + j 1) (j 2)
def lBlk (g : ℕ → ℕ → Elt F .f32) : Vec F S1x256x128 .f32 := fun j => g (j 1) (j 2)

def oMn (r d : ℕ) : Elt F .bf16 := pMO (oBlk (oLn A c) (rb r)) (oBlk (oLn A (p1 c)) (rb r)) (ixS (r % 256) d)
def lMn (r d : ℕ) : Elt F .f32 := pML (lBlk (lLn A c)) (lBlk (lLn A (p1 c))) (ixH r d)

/-- The exchanged sums, at a slot, a row and a column; the exchanged denominators likewise. -/
def Con (s r d : ℕ) : Elt F .bf16 :=
  if s = 0 then oLn A c r d else if s = 1 then oLn A (p1 c) r d else if s = 2 then oMn A c r d else oMn A (p2 c) r d
def Cln (s r d : ℕ) : Elt F .f32 :=
  if s = 0 then lLn A c r d else if s = 1 then lLn A (p1 c) r d else if s = 2 then lMn A c r d else lMn A (p2 c) r d
def Co : (cc0_scratch3 : Ref sig .tc).ty.Contents (Elt F) := fun i : S4x1024x1024.Idx => Con A c (i 0) (i 1) (i 2)
def Cl : (cc0_scratch4 : Ref sig .tc).ty.Contents (Elt F) := fun i : S4x256x128.Idx => Cln A c (i 0) (i 1) (i 2)

/-- The reciprocal denominators, the total of a batch, the normalised heads and the output. -/
def invA : FVec F S256x128 .f32 := pInv (lBlk (lMn A c)) (lBlk (lMn A (p2 c)))
def totA (b : Fin 4) : FVec F S256x1024 .f32 := pTot (oBlk (oMn A c) b) (oBlk (oMn A (p2 c)) b)
def accA : (cc0_scratch5 : Ref sig .tc).ty.Contents (Elt F) := fun i : S1024x1024.Idx =>
  pAcc (rb (i 0)) (ch (i 1)) (invA A c) (totA A c (rb (i 0))) (ixT ((i 0 : ℕ) % 256) ((i 1 : ℕ) % 128))
def aRow (b : Fin 4) : Vec F S256x1024 .f32 := fun j => accA A c ((rRow b).emb j)
def outA : (cc0_stg3_0 : Ref sig .tc).ty.Contents (Elt F) := fun i : S1024x1024.Idx =>
  pOut (aRow A c (rb (i 0))) (A.wo c) (ixR ((i 0 : ℕ) % 256) (i 1))

/-- The keys (values) of batch `b`, as the slots of the double buffer hold them. -/
def kSlot (b : Fin 4) : (cc0_scratch1 : Ref sig .tc).ty.Contents (Elt F) := fun i : S2x1024x1024.Idx =>
  A.k c (ix S4x1024x1024 (by decide) ![b.val, i 1, i 2])
def vSlot (b : Fin 4) : (cc0_scratch2 : Ref sig .tc).ty.Contents (Elt F) := fun i : S2x1024x1024.Idx =>
  A.v c (ix S4x1024x1024 (by decide) ![b.val, i 1, i 2])

/-! ## Reading and writing rectangles -/

/-- A write through a unit rectangle of a whole buffer, at an index of the rectangle and off it. -/
theorem write_cases (bf : Ref sig .tc) (off size : Fin bf.ty.shape.rank → ℕ) (inb) (f : bf.ty.Contents (Elt F))
    (w : (Rect.unit off size inb).shape.Idx → Elt F bf.ty.elt) (i : bf.ty.shape.Idx) :
    (∃ y, (∀ a, (i a : ℕ) = off a + y a) ∧ ((Memref.whole bf).access (Rect.unit off size inb)).write (Elt F) f w Finset.univ i = w y)
      ∨ ((¬ ∀ a, off a ≤ i a ∧ (i a : ℕ) < off a + size a)
          ∧ ((Memref.whole bf).access (Rect.unit off size inb)).write (Elt F) f w Finset.univ i = f i) := by
  by_cases hi : i ∈ ((View.whole bf).slice (Rect.unit off size inb)).set
  · obtain ⟨y, hy⟩ := View.exists_of_mem_set_slice hi
    refine .inl ⟨y, fun a => by rw [← hy]; exact ValueKit.view_emb_slice_whole_unit_val bf off size inb y a, ?_⟩
    have := View.write_emb_of_mem (v := (Memref.whole bf).access (Rect.unit off size inb)) (Val := Elt F) f w (Finset.mem_univ y)
    rw [← hy]; exact this
  · refine .inr ⟨fun h => hi (by rw [View.set_slice_whole]; exact Rect.mem_set_unit.mpr h), View.write_of_not_mem _ _ _ ?_⟩
    rw [View.setOn_univ]; exact hi

/-! ## Which elements a view covers -/

theorem slab_mem (s b : Fin 4) (i : S4x1024x1024.Idx) :
    i ∈ (slab s b).view.set ↔ (i 0 : ℕ) = s ∧ 256 * b.val ≤ i 1 ∧ (i 1 : ℕ) < 256 * b.val + 256 := by
  rw [show ((slab s b).view.set : Finset S4x1024x1024.Idx) = (rSlab s b).set from (View.set_reshape _ _).trans (View.set_slice_whole _ _), Rect.mem_set_unit, Fin.forall_fin_succ, Fin.forall_fin_two]
  have h2 := (i 2).isLt
  change (i 2 : ℕ) < 1024 at h2
  show (s.val ≤ i 0 ∧ (i 0 : ℕ) < s.val + 1) ∧ (256 * b.val ≤ i 1 ∧ (i 1 : ℕ) < 256 * b.val + 256) ∧ (0 ≤ (i 2 : ℕ) ∧ (i 2 : ℕ) < 0 + 1024) ↔ _
  omega

theorem lslot_mem (s : Fin 4) (i : S4x256x128.Idx) : i ∈ (lslot s).view.set ↔ (i 0 : ℕ) = s := by
  rw [show ((lslot s).view.set : Finset S4x256x128.Idx) = (rLs s).set from (View.set_reshape _ _).trans (View.set_slice_whole _ _), Rect.mem_set_unit, Fin.forall_fin_succ, Fin.forall_fin_two]
  have h1 := (i 1).isLt
  have h2 := (i 2).isLt
  change (i 1 : ℕ) < 256 at h1
  change (i 2 : ℕ) < 128 at h2
  show (s.val ≤ i 0 ∧ (i 0 : ℕ) < s.val + 1) ∧ (0 ≤ (i 1 : ℕ) ∧ (i 1 : ℕ) < 0 + 256) ∧ (0 ≤ (i 2 : ℕ) ∧ (i 2 : ℕ) < 0 + 128) ↔ _
  omega

theorem slot2_mem (s : Fin 2) (i : S2x1024x1024.Idx) :
    i ∈ (Rect.unit (s := S2x1024x1024) ![s.val, 0, 0] S1x1024x1024.size (inbSlot2 s)).set ↔ (i 0 : ℕ) = s := by
  rw [Rect.mem_set_unit, Fin.forall_fin_succ, Fin.forall_fin_two]
  have h1 := (i 1).isLt
  have h2 := (i 2).isLt
  change (i 1 : ℕ) < 1024 at h1
  change (i 2 : ℕ) < 1024 at h2
  show (s.val ≤ i 0 ∧ (i 0 : ℕ) < s.val + 1) ∧ (0 ≤ (i 1 : ℕ) ∧ (i 1 : ℕ) < 0 + 1024) ∧ (0 ≤ (i 2 : ℕ) ∧ (i 2 : ℕ) < 0 + 1024) ↔ _
  omega
theorem kDst_mem (s : Fin 2) (i : S2x1024x1024.Idx) : i ∈ (kDst s).view.set ↔ (i 0 : ℕ) = s := by
  rw [show ((kDst s).view.set : Finset S2x1024x1024.Idx) = (Rect.unit (s := S2x1024x1024) ![s.val, 0, 0] S1x1024x1024.size (inbSlot2 s)).set from
    (View.set_reshape _ _).trans (View.set_slice_whole _ _)]
  exact slot2_mem s i
theorem vDst_mem (s : Fin 2) (i : S2x1024x1024.Idx) : i ∈ (vDst s).view.set ↔ (i 0 : ℕ) = s := by
  rw [show ((vDst s).view.set : Finset S2x1024x1024.Idx) = (Rect.unit (s := S2x1024x1024) ![s.val, 0, 0] S1x1024x1024.size (inbSlot2 s)).set from
    (View.set_reshape _ _).trans (View.set_slice_whole _ _)]
  exact slot2_mem s i

/-! ## Landings: what a transfer writes agrees with the closed form on the elements it covers -/

theorem land_O (s s' b : Fin 4) (d d' : Dev nD) (h : ∀ r q, Con A d' s' r q = Con A d s r q)
    (fd : (cc0_scratch3 : Ref sig .tc).ty.Contents (Elt F)) (i : S4x1024x1024.Idx) (hi : i ∈ (slab s' b).view.set) :
    (slab s' b).view.write (Elt F) fd ((slab s b).view.read (Elt F) (Co A d)) Finset.univ i = Co A d' i := by
  obtain ⟨x, -, rfl⟩ := Finset.mem_map.mp hi
  rw [View.write_emb_of_mem _ _ (Finset.mem_univ x), View.read_apply]
  let y : S1x256x1024.Idx := Shape.reshapeEquiv squeezes_S1x256x1024_S256x1024.numel_eq x
  have h0 : ∀ t, ((rSlab t b).emb y 0 : ℕ) = t := fun t => by
    rw [ValueKit.rect_emb_unit_val]; have := (y 0).isLt; change (y 0 : ℕ) < 1 at this; show t.val + (y 0 : ℕ) = t; omega
  show Con A d ((rSlab s b).emb y 0) ((rSlab s b).emb y 1) ((rSlab s b).emb y 2) = Con A d' ((rSlab s' b).emb y 0) ((rSlab s' b).emb y 1) ((rSlab s' b).emb y 2)
  rw [h0, h0, h]
  rfl

theorem land_L (s s' : Fin 4) (d d' : Dev nD) (h : ∀ r q, Cln A d' s' r q = Cln A d s r q)
    (fd : (cc0_scratch4 : Ref sig .tc).ty.Contents (Elt F)) (i : S4x256x128.Idx) (hi : i ∈ (lslot s').view.set) :
    (lslot s').view.write (Elt F) fd ((lslot s).view.read (Elt F) (Cl A d)) Finset.univ i = Cl A d' i := by
  obtain ⟨x, -, rfl⟩ := Finset.mem_map.mp hi
  rw [View.write_emb_of_mem _ _ (Finset.mem_univ x), View.read_apply]
  let y : S1x256x128.Idx := Shape.reshapeEquiv squeezes_S1x256x128_S256x128.numel_eq x
  have h0 : ∀ t, ((rLs t).emb y 0 : ℕ) = t := fun t => by
    rw [ValueKit.rect_emb_unit_val]; have := (y 0).isLt; change (y 0 : ℕ) < 1 at this; show t.val + (y 0 : ℕ) = t; omega
  show Cln A d ((rLs s).emb y 0) ((rLs s).emb y 1) ((rLs s).emb y 2) = Cln A d' ((rLs s').emb y 0) ((rLs s').emb y 1) ((rLs s').emb y 2)
  rw [h0, h0, h]
  rfl

theorem batch_idx (b : Fin 4) (s : Fin 2) (y : S1x1024x1024.Idx) :
    (Rect.unit (s := S4x1024x1024) ![b.val, 0, 0] S1x1024x1024.size (inbSlot4 b)).emb y
      = ix S4x1024x1024 (by decide) ![b.val, ((Rect.unit (s := S2x1024x1024) ![s.val, 0, 0] S1x1024x1024.size (inbSlot2 s)).emb y 1 : ℕ),
          ((Rect.unit (s := S2x1024x1024) ![s.val, 0, 0] S1x1024x1024.size (inbSlot2 s)).emb y 2 : ℕ)] := by
  have h0 := (y 0).isLt
  have h1 := (y 1).isLt
  have h2 := (y 2).isLt
  change (y 0 : ℕ) < 1 at h0
  change (y 1 : ℕ) < 1024 at h1
  change (y 2 : ℕ) < 1024 at h2
  rw [ValueKit.rect_emb_unit_val, ValueKit.rect_emb_unit_val]
  refine funext fun a => Fin.ext ?_
  rw [ValueKit.rect_emb_unit_val]
  fin_cases a
  · show b.val + (y 0 : ℕ) = b.val % 4; omega
  · show 0 + (y 1 : ℕ) = (0 + (y 1 : ℕ)) % 1024; omega
  · show 0 + (y 2 : ℕ) = (0 + (y 2 : ℕ)) % 1024; omega

theorem land_K (b : Fin 4) (s : Fin 2) (fd : (cc0_scratch1 : Ref sig .tc).ty.Contents (Elt F)) (i : S2x1024x1024.Idx) (hi : i ∈ (kDst s).view.set) :
    (kDst s).view.write (Elt F) fd ((kSrc b).view.read (Elt F) (A.k c)) Finset.univ i = kSlot A c b i := by
  obtain ⟨x, -, rfl⟩ := Finset.mem_map.mp hi
  rw [View.write_emb_of_mem _ _ (Finset.mem_univ x), View.read_apply]
  exact congrArg (A.k c) (batch_idx b s _)
theorem land_V (b : Fin 4) (s : Fin 2) (fd : (cc0_scratch2 : Ref sig .tc).ty.Contents (Elt F)) (i : S2x1024x1024.Idx) (hi : i ∈ (vDst s).view.set) :
    (vDst s).view.write (Elt F) fd ((vSrc b).view.read (Elt F) (A.v c)) Finset.univ i = vSlot A c b i := by
  obtain ⟨x, -, rfl⟩ := Finset.mem_map.mp hi
  rw [View.write_emb_of_mem _ _ (Finset.mem_univ x), View.read_apply]
  exact congrArg (A.v c) (batch_idx b s _)

/-! ## Loads of the closed forms -/

theorem read_q (b : Fin 4) (h : Fin 8) : qM.view.readAt (Elt F) (rQ b h).toLoadRect (qA A c) = qB A c b h := rfl

theorem head_idx (s : Fin 2) (b : Fin 4) (h : Fin 8) (j : S1x1024x128.Idx) :
    ix S4x1024x1024 (by decide) ![b.val, ((rKV s h).emb j 1 : ℕ), ((rKV s h).emb j 2 : ℕ)] = (rK4 b h).emb j := by
  have h0 := (j 0).isLt
  have h1 := (j 1).isLt
  have h2 := (j 2).isLt
  change (j 0 : ℕ) < 1 at h0
  change (j 1 : ℕ) < 1024 at h1
  change (j 2 : ℕ) < 128 at h2
  rw [ValueKit.rect_emb_unit_val, ValueKit.rect_emb_unit_val]
  refine funext fun a => Fin.ext ?_
  rw [ValueKit.rect_emb_unit_val]
  fin_cases a
  · show b.val % 4 = b.val + (j 0 : ℕ); omega
  · show (0 + (j 1 : ℕ)) % 1024 = 0 + (j 1 : ℕ); omega
  · show (128 * h.val + (j 2 : ℕ)) % 1024 = 128 * h.val + (j 2 : ℕ); omega
theorem read_k (s : Fin 2) (b : Fin 4) (h : Fin 8) : kbM.view.readAt (Elt F) (rKV s h).toLoadRect (kSlot A c b) = kB A c b h :=
  funext fun j => congrArg (A.k c) (head_idx s b h j)
theorem read_v (s : Fin 2) (b : Fin 4) (h : Fin 8) : vbM.view.readAt (Elt F) (rKV s h).toLoadRect (vSlot A c b) = vB A c b h :=
  funext fun j => congrArg (A.v c) (head_idx s b h j)

theorem read_slab (s b : Fin 4) (g : ℕ → ℕ → Elt F .bf16) (hg : ∀ r q, Con A c s r q = g r q) :
    coM.view.readAt (Elt F) (rSlab s b).toLoadRect (Co A c) = oBlk g b := by
  funext j
  have h0 : ((rSlab s b).emb j 0 : ℕ) = s := by
    rw [ValueKit.rect_emb_unit_val]; have := (j 0).isLt; change (j 0 : ℕ) < 1 at this; show s.val + (j 0 : ℕ) = s; omega
  show Con A c ((rSlab s b).emb j 0) ((rSlab s b).emb j 1) ((rSlab s b).emb j 2) = g _ _
  rw [h0, hg, ValueKit.rect_emb_unit_val, ValueKit.rect_emb_unit_val]
  exact congrArg (g _) (Nat.zero_add _)
theorem read_lslot (s : Fin 4) (g : ℕ → ℕ → Elt F .f32) (hg : ∀ r q, Cln A c s r q = g r q) :
    clM.view.readAt (Elt F) (rLs s).toLoadRect (Cl A c) = lBlk g := by
  funext j
  have h0 : ((rLs s).emb j 0 : ℕ) = s := by
    rw [ValueKit.rect_emb_unit_val]; have := (j 0).isLt; change (j 0 : ℕ) < 1 at this; show s.val + (j 0 : ℕ) = s; omega
  show Cln A c ((rLs s).emb j 0) ((rLs s).emb j 1) ((rLs s).emb j 2) = g _ _
  rw [h0, hg, ValueKit.rect_emb_unit_val, ValueKit.rect_emb_unit_val]
  exact congrArg₂ g (Nat.zero_add _) (Nat.zero_add _)

theorem read_acc (b : Fin 4) (f : (cc0_scratch5 : Ref sig .tc).ty.Contents (Elt F))
    (hf : ∀ i : S1024x1024.Idx, 256 * b.val ≤ i 0 → (i 0 : ℕ) < 256 * b.val + 256 → f i = accA A c i) :
    accM.view.readAt (Elt F) (rRow b).toLoadRect f = aRow A c b := by
  funext j
  have := (j 0).isLt
  change (j 0 : ℕ) < 256 at this
  have h0 : ((rRow b).emb j 0 : ℕ) = 256 * b.val + j 0 := by rw [ValueKit.rect_emb_unit_val]; rfl
  exact hf ((rRow b).emb j) (by omega) (by omega)

/-! ## Stores: a step extends the part of a buffer that agrees with the closed form -/

theorem ix_eq {s : Shape} {hs : ∀ a, 0 < s.size a} {f : Fin s.rank → ℕ} (y : s.Idx) (h : ∀ a, f a = y a) : ix s hs f = y :=
  funext fun a => Fin.ext (by show f a % s.size a = y a; rw [h a, Nat.mod_eq_of_lt (y a).isLt])

/-- The first `n` columns of batch `b`'s rows of slot 0. -/
def SumsTo (b : Fin 4) (n : ℕ) (f : (cc0_scratch3 : Ref sig .tc).ty.Contents (Elt F)) : Prop :=
  ∀ i : S4x1024x1024.Idx, (i 0 : ℕ) = 0 → 256 * b.val ≤ i 1 → (i 1 : ℕ) < 256 * b.val + 256 → (i 2 : ℕ) < n → f i = Co A c i

theorem sumsTo_head (b : Fin 4) (h : Fin 8) (f : (cc0_scratch3 : Ref sig .tc).ty.Contents (Elt F)) (hf : SumsTo A c b (128 * h.val) f) :
    SumsTo A c b (128 * (h.val + 1)) ((coM.access (rO b h)).write (Elt F) f (oB A c b h) Finset.univ) := by
  intro i i0 i1 i1' i2
  rcases write_cases cc0_scratch3 (![0, 256 * b.val, 128 * h.val] : Fin 3 → ℕ) S1x256x128.size (inbO b h) f (oB A c b h) i with ⟨y, hy, e⟩ | ⟨hn, e⟩
  · refine e.trans ?_
    have y0 := hy 0
    have y1 := hy 1
    have y2 := hy 2
    have l1 := (y 1).isLt
    have l2 := (y 2).isLt
    change (y 1 : ℕ) < 256 at l1
    change (y 2 : ℕ) < 128 at l2
    change (i 0 : ℕ) = 0 + (y 0 : ℕ) at y0
    change (i 1 : ℕ) = 256 * b.val + (y 1 : ℕ) at y1
    change (i 2 : ℕ) = 128 * h.val + (y 2 : ℕ) at y2
    show _ = Con A c (i 0) (i 1) (i 2)
    rw [show (i 0 : ℕ) = 0 from i0]
    show _ = oB A c (rb (i 1)) (ch (i 2)) (ixH ((i 1 : ℕ) % 256) ((i 2 : ℕ) % 128))
    rw [show rb (i 1) = b from Fin.ext (by show (i 1 : ℕ) / 256 % 4 = b.val; omega),
      show ch (i 2) = h from Fin.ext (by show (i 2 : ℕ) / 128 % 8 = h.val; omega)]
    refine congrArg (oB A c b h) (ix_eq (s := S1x256x128) y ?_).symm
    intro a
    fin_cases a
    · show 0 = (y 0 : ℕ); omega
    · show (i 1 : ℕ) % 256 = (y 1 : ℕ); omega
    · show (i 2 : ℕ) % 128 = (y 2 : ℕ); omega
  · refine e.trans (hf i i0 i1 i1' ?_)
    by_contra hc
    refine hn fun a => ?_
    fin_cases a
    · show 0 ≤ (i 0 : ℕ) ∧ (i 0 : ℕ) < 0 + 1; omega
    · show 256 * b.val ≤ (i 1 : ℕ) ∧ (i 1 : ℕ) < 256 * b.val + 256; omega
    · show 128 * h.val ≤ (i 2 : ℕ) ∧ (i 2 : ℕ) < 128 * h.val + 128; omega

/-- The first `n` columns of slot 0 of the denominators, and the columns no head has. -/
def DensTo (n : ℕ) (f : (cc0_scratch4 : Ref sig .tc).ty.Contents (Elt F)) : Prop :=
  ∀ i : S4x256x128.Idx, (i 0 : ℕ) = 0 → ((i 2 : ℕ) < n ∨ 32 ≤ (i 2 : ℕ)) → f i = Cl A c i

theorem densTo_zero (f : (cc0_scratch4 : Ref sig .tc).ty.Contents (Elt F)) :
    DensTo A c 0 ((clM.access (rLs 0)).write (Elt F) f (k0_pay3 (F := F)) Finset.univ) := by
  intro i i0 i2
  rcases write_cases cc0_scratch4 (![0, 0, 0] : Fin 3 → ℕ) S1x256x128.size (inbLs 0) f (k0_pay3 (F := F)) i with ⟨y, hy, e⟩ | ⟨hn, e⟩
  · refine e.trans ?_
    have y0 := hy 0
    have y1 := hy 1
    have y2 := hy 2
    change (i 0 : ℕ) = 0 + (y 0 : ℕ) at y0
    change (i 1 : ℕ) = 0 + (y 1 : ℕ) at y1
    change (i 2 : ℕ) = 0 + (y 2 : ℕ) at y2
    show _ = Cln A c (i 0) (i 1) (i 2)
    rw [show (i 0 : ℕ) = 0 from i0]
    show _ = lLn A c (i 1) (i 2)
    rw [lLn, if_neg (by omega)]
    refine congrArg (k0_pay3 (F := F)) (ix_eq (s := S1x256x128) y ?_).symm
    intro a
    fin_cases a
    · show 0 = (y 0 : ℕ); omega
    · show (i 1 : ℕ) = (y 1 : ℕ); omega
    · show (i 2 : ℕ) = (y 2 : ℕ); omega
  · refine absurd (fun a => ?_) hn
    have l1 := (i 1).isLt
    have l2 := (i 2).isLt
    change (i 1 : ℕ) < 256 at l1
    change (i 2 : ℕ) < 128 at l2
    fin_cases a
    · show 0 ≤ (i 0 : ℕ) ∧ (i 0 : ℕ) < 0 + 1; omega
    · show 0 ≤ (i 1 : ℕ) ∧ (i 1 : ℕ) < 0 + 256; omega
    · show 0 ≤ (i 2 : ℕ) ∧ (i 2 : ℕ) < 0 + 128; omega

theorem densTo_head (b : Fin 4) (h : Fin 8) (f : (cc0_scratch4 : Ref sig .tc).ty.Contents (Elt F)) (hf : DensTo A c (8 * b.val + h.val) f) :
    DensTo A c (8 * b.val + h.val + 1) ((clM.access (rL b h)).write (Elt F) f (lB A c b h) Finset.univ) := by
  intro i i0 i2
  have l1 := (i 1).isLt
  change (i 1 : ℕ) < 256 at l1
  rcases write_cases cc0_scratch4 (![0, 0, 8 * b.val + h.val] : Fin 3 → ℕ) S1x256x1.size (inbL b h) f (lB A c b h) i with ⟨y, hy, e⟩ | ⟨hn, e⟩
  · refine e.trans ?_
    have y0 := hy 0
    have y1 := hy 1
    have y2 := hy 2
    have l2 := (y 2).isLt
    change (y 2 : ℕ) < 1 at l2
    change (i 0 : ℕ) = 0 + (y 0 : ℕ) at y0
    change (i 1 : ℕ) = 0 + (y 1 : ℕ) at y1
    change (i 2 : ℕ) = 8 * b.val + h.val + (y 2 : ℕ) at y2
    show _ = Cln A c (i 0) (i 1) (i 2)
    rw [show (i 0 : ℕ) = 0 from i0]
    show _ = lLn A c (i 1) (i 2)
    rw [lLn, if_pos (by omega), show lb (i 2) = b from Fin.ext (by show (i 2 : ℕ) / 8 % 4 = b.val; omega),
      show lh (i 2) = h from Fin.ext (by show (i 2 : ℕ) % 8 = h.val; omega)]
    refine congrArg (lB A c b h) (ix_eq (s := S1x256x1) y ?_).symm
    intro a
    fin_cases a
    · show 0 = (y 0 : ℕ); omega
    · show (i 1 : ℕ) = (y 1 : ℕ); omega
    · show 0 = (y 2 : ℕ); omega
  · refine e.trans (hf i i0 ?_)
    by_contra hc
    refine hn fun a => ?_
    fin_cases a
    · show 0 ≤ (i 0 : ℕ) ∧ (i 0 : ℕ) < 0 + 1; omega
    · show 0 ≤ (i 1 : ℕ) ∧ (i 1 : ℕ) < 0 + 256; omega
    · show 8 * b.val + h.val ≤ (i 2 : ℕ) ∧ (i 2 : ℕ) < 8 * b.val + h.val + 1; omega

theorem store_mergeO (b : Fin 4) (f : (cc0_scratch3 : Ref sig .tc).ty.Contents (Elt F)) (i : S4x1024x1024.Idx) (hi : i ∈ (slab 2 b).view.set) :
    (coM.access (rSlab 2 b)).write (Elt F) f (pMO (oBlk (oLn A c) b) (oBlk (oLn A (p1 c)) b)) Finset.univ i = Co A c i := by
  obtain ⟨i0, i1, i1'⟩ := (slab_mem 2 b i).mp hi
  change (i 0 : ℕ) = 2 at i0
  have l2 := (i 2).isLt
  change (i 2 : ℕ) < 1024 at l2
  rcases write_cases cc0_scratch3 (![2, 256 * b.val, 0] : Fin 3 → ℕ) S1x256x1024.size (inbSlab 2 b) f
    (pMO (oBlk (oLn A c) b) (oBlk (oLn A (p1 c)) b)) i with ⟨y, hy, e⟩ | ⟨hn, e⟩
  · refine e.trans ?_
    have y0 := hy 0
    have y1 := hy 1
    have y2 := hy 2
    have l1 := (y 1).isLt
    change (y 1 : ℕ) < 256 at l1
    change (i 0 : ℕ) = 2 + (y 0 : ℕ) at y0
    change (i 1 : ℕ) = 256 * b.val + (y 1 : ℕ) at y1
    change (i 2 : ℕ) = 0 + (y 2 : ℕ) at y2
    show _ = Con A c (i 0) (i 1) (i 2)
    rw [i0]
    show _ = pMO (oBlk (oLn A c) (rb (i 1))) (oBlk (oLn A (p1 c)) (rb (i 1))) (ixS ((i 1 : ℕ) % 256) (i 2))
    rw [show rb (i 1) = b from Fin.ext (by show (i 1 : ℕ) / 256 % 4 = b.val; omega)]
    refine congrArg (pMO (oBlk (oLn A c) b) (oBlk (oLn A (p1 c)) b)) (ix_eq (s := S1x256x1024) y ?_).symm
    intro a
    fin_cases a
    · show 0 = (y 0 : ℕ); omega
    · show (i 1 : ℕ) % 256 = (y 1 : ℕ); omega
    · show (i 2 : ℕ) = (y 2 : ℕ); omega
  · refine absurd (fun a => ?_) hn
    fin_cases a
    · show 2 ≤ (i 0 : ℕ) ∧ (i 0 : ℕ) < 2 + 1; omega
    · show 256 * b.val ≤ (i 1 : ℕ) ∧ (i 1 : ℕ) < 256 * b.val + 256; omega
    · show 0 ≤ (i 2 : ℕ) ∧ (i 2 : ℕ) < 0 + 1024; omega

theorem store_mergeL (f : (cc0_scratch4 : Ref sig .tc).ty.Contents (Elt F)) (i : S4x256x128.Idx) (hi : i ∈ (lslot 2).view.set) :
    (clM.access (rLs 2)).write (Elt F) f (pML (lBlk (lLn A c)) (lBlk (lLn A (p1 c)))) Finset.univ i = Cl A c i := by
  have i0 := (lslot_mem 2 i).mp hi
  change (i 0 : ℕ) = 2 at i0
  have l1 := (i 1).isLt
  have l2 := (i 2).isLt
  change (i 1 : ℕ) < 256 at l1
  change (i 2 : ℕ) < 128 at l2
  rcases write_cases cc0_scratch4 (![2, 0, 0] : Fin 3 → ℕ) S1x256x128.size (inbLs 2) f
    (pML (lBlk (lLn A c)) (lBlk (lLn A (p1 c)))) i with ⟨y, hy, e⟩ | ⟨hn, e⟩
  · refine e.trans ?_
    have y0 := hy 0
    have y1 := hy 1
    have y2 := hy 2
    change (i 0 : ℕ) = 2 + (y 0 : ℕ) at y0
    change (i 1 : ℕ) = 0 + (y 1 : ℕ) at y1
    change (i 2 : ℕ) = 0 + (y 2 : ℕ) at y2
    show _ = Cln A c (i 0) (i 1) (i 2)
    rw [i0]
    show _ = pML (lBlk (lLn A c)) (lBlk (lLn A (p1 c))) (ixH (i 1) (i 2))
    refine congrArg (pML (lBlk (lLn A c)) (lBlk (lLn A (p1 c)))) (ix_eq (s := S1x256x128) y ?_).symm
    intro a
    fin_cases a
    · show 0 = (y 0 : ℕ); omega
    · show (i 1 : ℕ) = (y 1 : ℕ); omega
    · show (i 2 : ℕ) = (y 2 : ℕ); omega
  · refine absurd (fun a => ?_) hn
    fin_cases a
    · show 2 ≤ (i 0 : ℕ) ∧ (i 0 : ℕ) < 2 + 1; omega
    · show 0 ≤ (i 1 : ℕ) ∧ (i 1 : ℕ) < 0 + 256; omega
    · show 0 ≤ (i 2 : ℕ) ∧ (i 2 : ℕ) < 0 + 128; omega

/-- The first `n` columns of batch `b`'s rows of the normalised heads. -/
def HeadsTo (b : Fin 4) (n : ℕ) (f : (cc0_scratch5 : Ref sig .tc).ty.Contents (Elt F)) : Prop :=
  ∀ i : S1024x1024.Idx, 256 * b.val ≤ i 0 → (i 0 : ℕ) < 256 * b.val + 256 → (i 1 : ℕ) < n → f i = accA A c i

theorem headsTo_norm (b : Fin 4) (h : Fin 8) (f : (cc0_scratch5 : Ref sig .tc).ty.Contents (Elt F)) (hf : HeadsTo A c b (128 * h.val) f) :
    HeadsTo A c b (128 * (h.val + 1)) ((accM.access (rQ b h)).write (Elt F) f (pAcc b h (invA A c) (totA A c b)) Finset.univ) := by
  intro i i0 i0' i1
  rcases write_cases cc0_scratch5 (![256 * b.val, 128 * h.val] : Fin 2 → ℕ) S256x128.size (inbQ b h) f
    (pAcc b h (invA A c) (totA A c b)) i with ⟨y, hy, e⟩ | ⟨hn, e⟩
  · refine e.trans ?_
    have y0 := hy 0
    have y1 := hy 1
    have l0 := (y 0).isLt
    have l1 := (y 1).isLt
    change (y 0 : ℕ) < 256 at l0
    change (y 1 : ℕ) < 128 at l1
    change (i 0 : ℕ) = 256 * b.val + (y 0 : ℕ) at y0
    change (i 1 : ℕ) = 128 * h.val + (y 1 : ℕ) at y1
    show _ = pAcc (rb (i 0)) (ch (i 1)) (invA A c) (totA A c (rb (i 0))) (ixT ((i 0 : ℕ) % 256) ((i 1 : ℕ) % 128))
    rw [show rb (i 0) = b from Fin.ext (by show (i 0 : ℕ) / 256 % 4 = b.val; omega),
      show ch (i 1) = h from Fin.ext (by show (i 1 : ℕ) / 128 % 8 = h.val; omega)]
    refine congrArg (pAcc b h (invA A c) (totA A c b)) (ix_eq (s := S256x128) y ?_).symm
    intro a
    fin_cases a
    · show (i 0 : ℕ) % 256 = (y 0 : ℕ); omega
    · show (i 1 : ℕ) % 128 = (y 1 : ℕ); omega
  · refine e.trans (hf i i0 i0' ?_)
    by_contra hc
    refine hn fun a => ?_
    fin_cases a
    · show 256 * b.val ≤ (i 0 : ℕ) ∧ (i 0 : ℕ) < 256 * b.val + 256; omega
    · show 128 * h.val ≤ (i 1 : ℕ) ∧ (i 1 : ℕ) < 128 * h.val + 128; omega

/-- The first `n` rows of the output. -/
def RowsTo (n : ℕ) (f : (cc0_stg3_0 : Ref sig .tc).ty.Contents (Elt F)) : Prop :=
  ∀ i : S1024x1024.Idx, (i 0 : ℕ) < n → f i = outA A c i

theorem rowsTo_project (b : Fin 4) (f : (cc0_stg3_0 : Ref sig .tc).ty.Contents (Elt F)) (hf : RowsTo A c (256 * b.val) f) :
    RowsTo A c (256 * (b.val + 1)) ((outM.access (rRow b)).write (Elt F) f (pOut (aRow A c b) (A.wo c)) Finset.univ) := by
  intro i i0
  have l1 := (i 1).isLt
  change (i 1 : ℕ) < 1024 at l1
  rcases write_cases cc0_stg3_0 (![256 * b.val, 0] : Fin 2 → ℕ) S256x1024.size (inbRow b) f
    (pOut (aRow A c b) (A.wo c)) i with ⟨y, hy, e⟩ | ⟨hn, e⟩
  · refine e.trans ?_
    have y0 := hy 0
    have y1 := hy 1
    have l0 := (y 0).isLt
    change (y 0 : ℕ) < 256 at l0
    change (i 0 : ℕ) = 256 * b.val + (y 0 : ℕ) at y0
    change (i 1 : ℕ) = 0 + (y 1 : ℕ) at y1
    show _ = pOut (aRow A c (rb (i 0))) (A.wo c) (ixR ((i 0 : ℕ) % 256) (i 1))
    rw [show rb (i 0) = b from Fin.ext (by show (i 0 : ℕ) / 256 % 4 = b.val; omega)]
    refine congrArg (pOut (aRow A c b) (A.wo c)) (ix_eq (s := S256x1024) y ?_).symm
    intro a
    fin_cases a
    · show (i 0 : ℕ) % 256 = (y 0 : ℕ); omega
    · show (i 1 : ℕ) = (y 1 : ℕ); omega
  · refine e.trans (hf i ?_)
    by_contra hc
    refine hn fun a => ?_
    fin_cases a
    · show 256 * b.val ≤ (i 0 : ℕ) ∧ (i 0 : ℕ) < 256 * b.val + 256; omega
    · show 0 ≤ (i 1 : ℕ) ∧ (i 1 : ℕ) < 0 + 1024; omega

theorem rowsTo_all (f : (cc0_stg3_0 : Ref sig .tc).ty.Contents (Elt F)) (hf : RowsTo A c (256 * 4) f) : f = outA A c :=
  funext fun i : S1024x1024.Idx => hf i (i 0).isLt

end Cert.KernelIdealProof

end
-- ==== Proof.Protocol.lean ====
/-
# The protocol

Per device, the cells and what each hands over:

* the barrier: two units, one from each partner. The first partner (`3 - c`) hands its landing slot 1, the second
  (`c xor 1`) its landing slot 3; the wait for two takes both.
* the four load cells (keys and values, two slots): two rounds each, one per batch that uses the slot. The landing hands
  the slot holding the batch and the source back.
* the departures of the two exchanges of sums (one cell per batch) and of the two exchanges of denominators: the half of
  the source the transfer held.
* the arrivals: the landing slot holding the partner's contents.

At launch a device owes each partner one barrier unit, its first partner the credits of the first exchange and its second
partner those of the second. The loads and departures are at level 0, the barrier at 1, the first arrivals at 2, the
second at 3: a device waits on a cell only while it owes cells above it.
-/
module

public import proofs.«01_k».proof.Proof.Contents
public import proofs.«01_k».proof.Proof.Gen.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (A : Args F)

/-! ## Cells -/

abbrev barCell (c : Dev nD) : GSem nD τ sig := ((c : Thread nD τ), .reg barS)
abbrev dCell (c : Dev nD) (s : DmaSem sig) : GSem nD τ sig := ((c : Thread nD τ), .dma s)

/-- The kernel's own semaphores as the launch numbers them, and all that the protocol uses. -/
abbrev osem : Fin 24 → SemLoc sig := fun k => .dma (dsem (4 + k.val) (by omega))
abbrev csem : Option (Fin 24) → SemLoc sig := fun o => o.elim (.reg barS) osem
abbrev kcell (ck : Dev nD × Option (Fin 24)) : GSem nD τ sig := ((ck.1 : Thread nD τ), csem ck.2)

/-- The credits: of a batch of keys or values, of a batch's rows of sums, of a slot of denominators. -/
abbrev NK : ℕ := (kDst 0).view.dmaCredit
abbrev NO : ℕ := (slab 0 0).view.dmaCredit
abbrev NL : ℕ := (lslot 0).view.dmaCredit

/-! ## Resources -/

def slabPts (c : Dev nD) (s b : Fin 4) (q : PosShare TreeShare) (f : (cc0_scratch3 : Ref sig .tc).ty.Contents (Elt F)) : sProp 𝕄 :=
  (slab s b).view.loc (c : Thread nD τ) ↦[(slab s b).view.set]{q} f
def lPts (c : Dev nD) (s : Fin 4) (q : PosShare TreeShare) (f : (cc0_scratch4 : Ref sig .tc).ty.Contents (Elt F)) : sProp 𝕄 :=
  (lslot s).view.loc (c : Thread nD τ) ↦[(lslot s).view.set]{q} f
def kPts (c : Dev nD) (s : Fin 2) (f : (cc0_scratch1 : Ref sig .tc).ty.Contents (Elt F)) : sProp 𝕄 :=
  (kDst s).view.loc (c : Thread nD τ) ↦[(kDst s).view.set]{fullShare} f
def vPts (c : Dev nD) (s : Fin 2) (f : (cc0_scratch2 : Ref sig .tc).ty.Contents (Elt F)) : sProp 𝕄 :=
  (vDst s).view.loc (c : Thread nD τ) ↦[(vDst s).view.set]{fullShare} f
def kSrcPts (c : Dev nD) (b : Fin 4) : sProp 𝕄 :=
  (kSrc b).view.loc (c : Thread nD τ) ↦[(kSrc b).view.set]{fullShare} A.k c
def vSrcPts (c : Dev nD) (b : Fin 4) : sProp 𝕄 :=
  (vSrc b).view.loc (c : Thread nD τ) ↦[(vSrc b).view.set]{fullShare} A.v c

/-- A landing slot, holding anything. -/
def landing (c : Dev nD) (s : Fin 4) : sProp 𝕄 :=
  iprop((∃ f, slabPts c s 0 fullShare f) ∗ (∃ f, slabPts c s 1 fullShare f) ∗ (∃ f, slabPts c s 2 fullShare f) ∗ (∃ f, slabPts c s 3 fullShare f)
    ∗ ∃ f, lPts c s fullShare f)

omit [FloatOps F] in
instance slabPts_storable (c : Dev nD) (s b q f) : BI.Storable (upEmb : UEmb _ 𝕄) (slabPts (F := F) c s b q f) := by unfold slabPts; infer_instance
omit [FloatOps F] in
instance lPts_storable (c : Dev nD) (s q f) : BI.Storable (upEmb : UEmb _ 𝕄) (lPts (F := F) c s q f) := by unfold lPts; infer_instance
omit [FloatOps F] in
instance kPts_storable (c : Dev nD) (s f) : BI.Storable (upEmb : UEmb _ 𝕄) (kPts (F := F) c s f) := by unfold kPts; infer_instance
omit [FloatOps F] in
instance vPts_storable (c : Dev nD) (s f) : BI.Storable (upEmb : UEmb _ 𝕄) (vPts (F := F) c s f) := by unfold vPts; infer_instance
omit [FloatOps F] in
instance kSrcPts_storable (c : Dev nD) (b) : BI.Storable (upEmb : UEmb _ 𝕄) (kSrcPts A c b) := by unfold kSrcPts; infer_instance
omit [FloatOps F] in
instance vSrcPts_storable (c : Dev nD) (b) : BI.Storable (upEmb : UEmb _ 𝕄) (vSrcPts A c b) := by unfold vSrcPts; infer_instance
omit [FloatOps F] in
instance landing_storable (c : Dev nD) (s) : BI.Storable (upEmb : UEmb _ 𝕄) (landing (F := F) c s) := by unfold landing; infer_instance

/-! ## The schedule -/

def f2 (i : ℕ) : Fin 2 := ⟨i % 2, Nat.mod_lt _ (by decide)⟩
def f4 (i : ℕ) : Fin 4 := ⟨i % 4, Nat.mod_lt _ (by decide)⟩

/-- What the DMA cell numbered `i` of device `c` hands over at round `r`. -/
def payD (c : Dev nD) (i r : ℕ) : sProp 𝕄 :=
  if i < 4 then iprop(emp)
  else if i < 6 then iprop(kPts c (f2 i) (kSlot A c (f4 (i % 2 + 2 * r))) ∗ kSrcPts A c (f4 (i % 2 + 2 * r)))
  else if i < 8 then iprop(vPts c (f2 i) (vSlot A c (f4 (i % 2 + 2 * r))) ∗ vSrcPts A c (f4 (i % 2 + 2 * r)))
  else if i < 12 then slabPts c 0 (f4 i) fullShare.left (Co A c)
  else if i < 16 then slabPts c 1 (f4 i) fullShare (Co A c)
  else if i < 20 then slabPts c 2 (f4 i) fullShare.left (Co A c)
  else if i < 24 then slabPts c 3 (f4 i) fullShare (Co A c)
  else if i = 24 then lPts c 0 fullShare.left (Cl A c)
  else if i = 25 then lPts c 2 fullShare.left (Cl A c)
  else if i = 26 then lPts c 1 fullShare (Cl A c)
  else lPts c 3 fullShare (Cl A c)

instance payD_storable (c : Dev nD) (i r : ℕ) : BI.Storable (upEmb : UEmb _ 𝕄) (payD A c i r) := by
  unfold payD; (repeat' split) <;> infer_instance

def amt (i : ℕ) : ℕ := if i < 8 then NK else if i < 24 then NO else NL
theorem amt_pos (i : ℕ) : 0 < amt i := by
  unfold amt; split
  · exact View.dmaCredit_pos _ (by decide)
  · split <;> exact View.dmaCredit_pos _ (by decide)

/-- The duties of a round of a device's semaphore: the barrier's two, a load cell's one in each of two rounds, any other
    DMA cell's one. -/
def duS : SemLoc sig → ℕ → Finset Bool
  | .reg s, r => if r = 0 ∧ s = barS then Finset.univ else ∅
  | .dma i, r => if 4 ≤ i.val ∧ (r = 0 ∨ r = 1 ∧ i.val < 8) then {false} else ∅

theorem duS_bar (r : ℕ) : duS (.reg barS) r = if r = 0 ∧ barS = barS then Finset.univ else ∅ := rfl
theorem duS_dma (i : DmaSem sig) (r : ℕ) : duS (.dma i) r = if 4 ≤ i.val ∧ (r = 0 ∨ r = 1 ∧ i.val < 8) then {false} else ∅ := rfl

def Rd : Rounds.Schedule (GSem nD τ sig) Bool 𝕄 where
  duties g r := if g.1.2 = .tc then duS g.2 r else ∅
  unitless _ := False
  amount g _ _ := match g.2 with
    | .reg _ => 1
    | .dma i => amt i.val
  payload g r d := match g.2 with
    | .reg _ => if d then landing (p2 g.1.1) 3 else landing (p1 g.1.1) 1
    | .dma i => payD A g.1.1 i.val r
  amount_pos g _ _ _ := by
    split
    · exact Nat.one_pos
    · exact amt_pos _

instance Rd_payload_storable (g : GSem nD τ sig) (r : ℕ) (d : Bool) : BI.Storable (upEmb : UEmb _ 𝕄) ((Rd A).payload g r d) := by
  obtain ⟨t, s⟩ := g
  cases s with
  | reg s => show BI.Storable upEmb (if d then landing (p2 t.1) 3 else landing (p1 t.1) 1); split <;> infer_instance
  | dma i => show BI.Storable upEmb (payD A t.1 i.val r); infer_instance

section Sched
variable (c : Dev nD)

theorem duties_tc (s : SemLoc sig) (r : ℕ) : (Rd A).duties ((c : Thread nD τ), s) r = duS s r := by dsimp only [Rd]; exact if_pos rfl
theorem duties_bar : (Rd A).duties (barCell c) 0 = Finset.univ := by rw [duties_tc, duS_bar, if_pos ⟨rfl, rfl⟩]
theorem duties_0 (s : DmaSem sig) (hs : 4 ≤ s.val) : (Rd A).duties (dCell c s) 0 = {false} := by
  rw [duties_tc, duS_dma, if_pos ⟨hs, .inl rfl⟩]
theorem duties_1 (s : DmaSem sig) (hs : 4 ≤ s.val) (hs' : s.val < 8) : (Rd A).duties (dCell c s) 1 = {false} := by
  rw [duties_tc, duS_dma, if_pos ⟨hs, .inr ⟨rfl, hs'⟩⟩]
theorem duties_bar_ge1 : ∀ r, 1 ≤ r → (Rd A).duties (barCell c) r = ∅ := fun r hr => by
  rw [duties_tc, duS_bar, if_neg fun h => by have := h.1; omega]
theorem duties_ge1 (s : DmaSem sig) (hs : 8 ≤ s.val) : ∀ r, 1 ≤ r → (Rd A).duties (dCell c s) r = ∅ := fun r hr => by
  rw [duties_tc, duS_dma, if_neg fun h => by have := h.2; omega]
theorem duties_ge2 (s : DmaSem sig) : ∀ r, 2 ≤ r → (Rd A).duties (dCell c s) r = ∅ := fun r hr => by
  rw [duties_tc, duS_dma, if_neg fun h => by have := h.2; omega]

theorem expect_bar : (Rd A).expect (barCell c) 0 = 2 := by
  unfold Schedule.expect Schedule.amountOf
  rw [duties_bar, Finset.sum_congr rfl fun d _ => (show (Rd A).amount (barCell c) 0 d = 1 from rfl), Finset.sum_const, Finset.card_univ, Fintype.card_bool, smul_eq_mul]
theorem expect_of (s : DmaSem sig) (r : ℕ) (h : (Rd A).duties (dCell c s) r = {false}) : (Rd A).expect (dCell c s) r = amt s.val := by
  unfold Schedule.expect Schedule.amountOf; rw [h, Finset.sum_singleton]; rfl

/-- The rest of a round, no duty taken. -/
theorem rest_bar : bigSep ((Rd A).duties (barCell c) 0 \ ∅) (fun d => (Rd A).payload (barCell c) 0 d) = iprop(landing (p1 c) 1 ∗ landing (p2 c) 3) := by
  rw [Finset.sdiff_empty, duties_bar, bigSep_univ_eq_bigSepL [false, true] (by decide) (by decide), bigSepL_cons_cons, bigSepL_singleton]
  rfl
theorem rest_of (s : DmaSem sig) (r : ℕ) (h : (Rd A).duties (dCell c s) r = {false}) :
    bigSep ((Rd A).duties (dCell c s) r \ ∅) (fun d => (Rd A).payload (dCell c s) r d) = payD A c s.val r := by
  rw [Finset.sdiff_empty, h, bigSep_singleton]; rfl

theorem f2_eq (s : Fin 2) (n : ℕ) (h : n % 2 = 0) : f2 (n + s.val) = s := Fin.ext (by show (n + s.val) % 2 = s.val; omega)
theorem f4_eq (b : Fin 4) (n : ℕ) (h : n % 4 = 0) : f4 (n + b.val) = b := Fin.ext (by show (n + b.val) % 4 = b.val; omega)

theorem pay_k (s : Fin 2) (b : Fin 4) (r : ℕ) (h : b.val = s.val + 2 * r) : payD A c (4 + s.val) r = iprop(kPts c s (kSlot A c b) ∗ kSrcPts A c b) := by
  unfold payD
  rw [if_neg (by omega), if_pos (by omega), f2_eq s 4 rfl, show f4 ((4 + s.val) % 2 + 2 * r) = b from Fin.ext (by show ((4 + s.val) % 2 + 2 * r) % 4 = b.val; omega)]
theorem pay_v (s : Fin 2) (b : Fin 4) (r : ℕ) (h : b.val = s.val + 2 * r) : payD A c (6 + s.val) r = iprop(vPts c s (vSlot A c b) ∗ vSrcPts A c b) := by
  unfold payD
  rw [if_neg (by omega), if_neg (by omega), if_pos (by omega), f2_eq s 6 rfl,
    show f4 ((6 + s.val) % 2 + 2 * r) = b from Fin.ext (by show ((6 + s.val) % 2 + 2 * r) % 4 = b.val; omega)]
theorem pay_s1 (b : Fin 4) (r : ℕ) : payD A c (8 + b.val) r = slabPts c 0 b fullShare.left (Co A c) := by
  unfold payD
  rw [if_neg (by omega), if_neg (by omega), if_neg (by omega), if_pos (by omega), f4_eq b 8 rfl]
theorem pay_r1 (b : Fin 4) (r : ℕ) : payD A c (12 + b.val) r = slabPts c 1 b fullShare (Co A c) := by
  unfold payD
  rw [if_neg (by omega), if_neg (by omega), if_neg (by omega), if_neg (by omega), if_pos (by omega), f4_eq b 12 rfl]
theorem pay_s2 (b : Fin 4) (r : ℕ) : payD A c (16 + b.val) r = slabPts c 2 b fullShare.left (Co A c) := by
  unfold payD
  rw [if_neg (by omega), if_neg (by omega), if_neg (by omega), if_neg (by omega), if_neg (by omega), if_pos (by omega), f4_eq b 16 rfl]
theorem pay_r2 (b : Fin 4) (r : ℕ) : payD A c (20 + b.val) r = slabPts c 3 b fullShare (Co A c) := by
  unfold payD
  rw [if_neg (by omega), if_neg (by omega), if_neg (by omega), if_neg (by omega), if_neg (by omega), if_neg (by omega), if_pos (by omega), f4_eq b 20 rfl]
theorem pay_ls0 (r : ℕ) : payD A c 24 r = lPts c 0 fullShare.left (Cl A c) := rfl
theorem pay_ls1 (r : ℕ) : payD A c 25 r = lPts c 2 fullShare.left (Cl A c) := rfl
theorem pay_lr0 (r : ℕ) : payD A c 26 r = lPts c 1 fullShare (Cl A c) := rfl
theorem pay_lr1 (r : ℕ) : payD A c 27 r = lPts c 3 fullShare (Cl A c) := rfl

end Sched

/-! ## What each core owes at launch; the levels -/

/-- A debt: to which device, on which of its semaphores, how much. -/
abbrev Debt : Type := (Dev nD → Dev nD) × SemLoc sig × ℕ

/-- A device's debts at launch, in the order it pays them. -/
def debts : List Debt :=
  [(p1, .reg barS, 1), (p2, .reg barS, 1),
   (p1, .dma (r1Sem 0), NO), (p1, .dma (r1Sem 1), NO), (p1, .dma (r1Sem 2), NO), (p1, .dma (r1Sem 3), NO), (p1, .dma (lrSem 0), NL),
   (p2, .dma (lrSem 1), NL), (p2, .dma (r2Sem 0), NO), (p2, .dma (r2Sem 1), NO), (p2, .dma (r2Sem 2), NO), (p2, .dma (r2Sem 3), NO)]

def tal (c : Dev nD) : List Debt → CellTallies nD τ sig Unit
  | [] => 0
  | e :: l => tal c l + tallyAt (((e.1 c : Dev nD) : Thread nD τ), e.2.1) () e.2.2

def L (g : GSem nD τ sig) : Finset Unit := if g.1.2 = .tc then {()} else ∅
def lvS : SemLoc sig → ℕ
  | .reg _ => 1
  | .dma i => if 12 ≤ i.val ∧ i.val < 16 ∨ i.val = 26 then 2 else if 20 ≤ i.val ∧ i.val < 24 ∨ i.val = 27 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {l : List Debt} {g : GSem nD τ sig} {u : Unit} (h : 0 < tal c l g u) :
    ∃ e ∈ l, g = (((e.1 c : Dev nD) : Thread nD τ), e.2.1) := by
  induction l with
  | nil => exact absurd h (Nat.lt_irrefl 0)
  | cons e l ih =>
    unfold tal at h
    rw [Pi.add_apply, Finsupp.add_apply, tallyAt_apply] at h
    by_cases hg : g = (((e.1 c : Dev nD) : Thread nD τ), e.2.1) ∧ u = ()
    · exact ⟨e, List.mem_cons_self, hg.1⟩
    · rw [if_neg hg, Nat.add_zero] at h
      obtain ⟨e', he', hg'⟩ := ih h
      exact ⟨e', List.mem_cons_of_mem _ he', hg'⟩

/-- A device may wait on a cell below all that it owes. -/
theorem mayWait_tal (c : Dev nD) (sm : SemLoc sig) (l : List Debt) (h : ∀ e ∈ l, lvS sm < lvS e.2.1) :
    (levAts L lv : sProp 𝕄) ⊢ MayWait (c : Thread nD τ) sm () (tal c l) :=
  MayOwe.of_cut (L := L) (lev := lv) (lvS sm) (fun p hp => by rw [Finset.mem_singleton.mp hp, L_tc]; exact Finset.mem_singleton_self _)
    (fun g u hg => by obtain ⟨e, -, rfl⟩ := tal_pos hg; rw [L_tc]; exact Finset.mem_singleton_self _)
    (fun p hp => by rw [Finset.mem_singleton.mp hp]; exact Nat.le_refl _)
    (fun g u hg => by obtain ⟨e, he, rfl⟩ := tal_pos hg; exact h e he)

/-- All the cells' invariants, and that round 0 of each is reached. -/
def records (K : Dev nD × Option (Fin 24) → ℕ) : sProp 𝕄 :=
  iprop((bigSep Finset.univ fun ck : Dev nD × Option (Fin 24) => cellInv ER (Rd A) (K ck) (kcell ck))
    ∗ (bigSep Finset.univ fun ck : Dev nD × Option (Fin 24) => reached ER (kcell ck) 0) ∗ levAts L lv)

instance records_persistent (K : Dev nD × Option (Fin 24) → ℕ) : BI.Persistent (records A K) := by unfold records; infer_instance

def kd (s : DmaSem sig) (hs : 4 ≤ s.val) : Option (Fin 24) := some ⟨s.val - 4, by have := s.isLt; change s.val < 28 at this; omega⟩
theorem kcell_kd (c : Dev nD) (s : DmaSem sig) (hs : 4 ≤ s.val) : kcell (c, kd s hs) = dCell c s := by
  show (((c : Dev nD) : Thread nD τ), SemLoc.dma (dsem (4 + (s.val - 4)) _)) = _
  congr 2
  exact Fin.ext (by show 4 + (s.val - 4) = s.val; omega)

variable (K : Dev nD × Option (Fin 24) → ℕ)

theorem rec_inv : records A K ⊢ (bigSep Finset.univ fun ck : Dev nD × Option (Fin 24) => (cellInv ER (Rd A) (K ck) (kcell ck) : sProp 𝕄)) := by
  unfold records; iintro ⟨H, -, -⟩; iexact H
theorem rec_rch : records A K ⊢ (bigSep Finset.univ fun ck : Dev nD × Option (Fin 24) => (reached ER (kcell ck) 0 : sProp 𝕄)) := by
  unfold records; iintro ⟨-, H, -⟩; iexact H
theorem inv_bar (c : Dev nD) : records A K ⊢ cellInv ER (Rd A) (K (c, none)) (barCell c) :=
  (rec_inv A K).trans (bigSep_elim (Finset.mem_univ (c, none)))
theorem inv_d (c : Dev nD) (s : DmaSem sig) (hs : 4 ≤ s.val) : records A K ⊢ cellInv ER (Rd A) (K (c, kd s hs)) (dCell c s) := by
  rw [← kcell_kd c s hs]
  exact (rec_inv A K).trans (bigSep_elim (Finset.mem_univ (c, kd s hs)))
theorem rch_bar (c : Dev nD) : records A K ⊢ (reached ER (barCell c) 0 : sProp 𝕄) :=
  (rec_rch A K).trans (bigSep_elim (Finset.mem_univ (c, none)))
theorem rch_d (c : Dev nD) (s : DmaSem sig) (hs : 4 ≤ s.val) : records A K ⊢ (reached ER (dCell c s) 0 : sProp 𝕄) := by
  rw [← kcell_kd c s hs]
  exact (rec_rch A K).trans (bigSep_elim (Finset.mem_univ (c, kd s hs)))
theorem rec_lev : records A K ⊢ (levAts L lv : sProp 𝕄) := by
  unfold records; iintro ⟨-, -, H⟩; iexact H

end Cert.KernelIdealProof

end
-- ==== Proof.Steps.lean ====
/-
# The steps

One lemma per step of the body, at a symbolic device, batch, head and slot: what the step takes, what it leaves.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Option (Fin 24) → ℕ)

abbrev posn (c : Dev nD) (s : DmaSem sig) (r : ℕ) : sProp 𝕄 := atPos ER (dCell c s) r ∅ 0
abbrev tok (c : Dev nD) (s : DmaSem sig) (r : ℕ) : sProp 𝕄 := dutyTok ER (dCell c s) r false
abbrev crd (c : Dev nD) (s : DmaSem sig) (n : ℕ) : sProp 𝕄 := cred (tallyAt (dCell c s) () n)
/-- The device's debts, whatever waits it has made. -/
def owesE (c : Dev nD) (l : List Debt) : sProp 𝕄 := iprop(∃ W, owes (c : Thread nD τ) (tal c l) W)

abbrev WP (c : Dev nD) {α : Type} (p : P F α) (Kt : α → sProp 𝕄) : sProp 𝕄 :=
  wp frame (wpE (defs₀ (F := F)) 𝒱₀ (c : Thread nD τ) none) Set.univ p Kt

theorem step_then {c : Dev nD} {α β : Type} {p : P F α} {k : α → P F β} {Kt : β → sProp 𝕄} {R : sProp 𝕄}
    (h : R ⊢ WP c p fun a => WP c (k a) Kt) : R ⊢ WP c (p >>= k) Kt := by
  refine h.trans ?_
  exact Entails.of_eq (wp_bind _ _ _ p k Kt).symm

/-! ## Transfers to a partner -/

theorem step_sendO (c d : Dev nD) (s s' b : Fin 4) (sS sR : DmaSem sig) (hS : 4 ≤ sS.val) (hR : 4 ≤ sR.val)
    (aS : amt sS.val = NO) (aR : amt sR.val = NO) (P' : Dev nD → Dev nD) (hd : d = P' c) (l : List Debt)
    (pS : payD A c sS.val 0 = slabPts c s b fullShare.left (Co A c)) (pR : payD A d sR.val 0 = slabPts d s' b fullShare (Co A d))
    (hcon : ∀ r q, Con A d s' r q = Con A c s r q) (Kt : PUnit → sProp 𝕄) :
    iprop(records A K ∗ slabPts c s b fullShare (Co A c) ∗ (∃ f, slabPts d s' b fullShare f) ∗ owesE c ((P', .dma sR, NO) :: l)
        ∗ tok c sS 0 ∗ tok d sR 0 ∗ ((slabPts c s b fullShare.right (Co A c) ∗ crd c sS NO ∗ owesE c l) -∗ Kt ⟨⟩))
      ⊢ WP c (sendO d s s' b sS sR) Kt := by
  subst hd
  unfold sendO owesE
  iintro ⟨#HR, Hs, ⟨%fd, Hd⟩, ⟨%W, HO⟩, HtS, HtR, HK⟩
  unfold slabPts at *
  ihave Hs := ((pointsTo_share (PosShare.mem_left_op_right fullShare)).1) $$ Hs
  icases Hs with ⟨Hl, Hr⟩
  iapply (Rounds.wp_send_pointsTo 𝒱₀ ER (Rd A) (c : Thread nD τ) none (κ₁ := K (c, kd sS hS)) (κ₂ := K (P' c, kd sR hR))
    (src := slab s b) (dst := slab s' b) (c' := Dev.tc (P' c)) (sS := .dma sS) (sem := .dma sR)
    (r₁ := 0) (r₂ := 0) (d₁ := false) (d₂ := false) (fd := fd)
    (by rw [duties_0 A c sS hS]; exact Finset.mem_singleton_self _) (by rw [duties_0 A (P' c) sR hR]; exact Finset.mem_singleton_self _)
    () () NO rfl aS aR (tal c l) rfl (W := W)
    (by show _ ⊢ payD A c sS.val 0; rw [pS])
    (by
      show _ ⊢ payD A (P' c) sR.val 0
      rw [pR]
      exact Entails.of_eq (pointsTo_congr fun i hi => land_O A s s' b c (P' c) hcon fd i hi))) $$ [Hl Hd HO HtS HtR]
  · isplitr; · iapply (inv_d A K c sS hS); iexact HR
    isplitr; · iapply (inv_d A K (P' c) sR hR); iexact HR
    isplitl [Hl]; · iexact Hl
    isplitl [Hd]; · iexact Hd
    isplitl [HO]; · iexact HO
    isplitl [HtS]; · iexact HtS
    isplitr; · iapply (rch_d A K c sS hS); iexact HR
    isplitl [HtR]; · iexact HtR
    iapply (rch_d A K (P' c) sR hR); iexact HR
  iintro ⟨HcS, HO⟩
  rw [wp_ret]; imodintro
  iapply HK
  isplitl [Hr]; · iexact Hr
  isplitl [HcS]; · iexact HcS
  iexists W; iexact HO

theorem step_sendL (c d : Dev nD) (s s' : Fin 4) (sS sR : DmaSem sig) (hS : 4 ≤ sS.val) (hR : 4 ≤ sR.val)
    (aS : amt sS.val = NL) (aR : amt sR.val = NL) (P' : Dev nD → Dev nD) (hd : d = P' c) (l : List Debt)
    (pS : payD A c sS.val 0 = lPts c s fullShare.left (Cl A c)) (pR : payD A d sR.val 0 = lPts d s' fullShare (Cl A d))
    (hcon : ∀ r q, Cln A d s' r q = Cln A c s r q) (Kt : PUnit → sProp 𝕄) :
    iprop(records A K ∗ lPts c s fullShare (Cl A c) ∗ (∃ f, lPts d s' fullShare f) ∗ owesE c ((P', .dma sR, NL) :: l)
        ∗ tok c sS 0 ∗ tok d sR 0 ∗ ((lPts c s fullShare.right (Cl A c) ∗ crd c sS NL ∗ owesE c l) -∗ Kt ⟨⟩))
      ⊢ WP c (sendL d s s' sS sR) Kt := by
  subst hd
  unfold sendL owesE
  iintro ⟨#HR, Hs, ⟨%fd, Hd⟩, ⟨%W, HO⟩, HtS, HtR, HK⟩
  unfold lPts at *
  ihave Hs := ((pointsTo_share (PosShare.mem_left_op_right fullShare)).1) $$ Hs
  icases Hs with ⟨Hl, Hr⟩
  iapply (Rounds.wp_send_pointsTo 𝒱₀ ER (Rd A) (c : Thread nD τ) none (κ₁ := K (c, kd sS hS)) (κ₂ := K (P' c, kd sR hR))
    (src := lslot s) (dst := lslot s') (c' := Dev.tc (P' c)) (sS := .dma sS) (sem := .dma sR)
    (r₁ := 0) (r₂ := 0) (d₁ := false) (d₂ := false) (fd := fd)
    (by rw [duties_0 A c sS hS]; exact Finset.mem_singleton_self _) (by rw [duties_0 A (P' c) sR hR]; exact Finset.mem_singleton_self _)
    () () NL rfl aS aR (tal c l) rfl (W := W)
    (by show _ ⊢ payD A c sS.val 0; rw [pS])
    (by
      show _ ⊢ payD A (P' c) sR.val 0
      rw [pR]
      exact Entails.of_eq (pointsTo_congr fun i hi => land_L A s s' c (P' c) hcon fd i hi))) $$ [Hl Hd HO HtS HtR]
  · isplitr; · iapply (inv_d A K c sS hS); iexact HR
    isplitr; · iapply (inv_d A K (P' c) sR hR); iexact HR
    isplitl [Hl]; · iexact Hl
    isplitl [Hd]; · iexact Hd
    isplitl [HO]; · iexact HO
    isplitl [HtS]; · iexact HtS
    isplitr; · iapply (rch_d A K c sS hS); iexact HR
    isplitl [HtR]; · iexact HtR
    iapply (rch_d A K (P' c) sR hR); iexact HR
  iintro ⟨HcS, HO⟩
  rw [wp_ret]; imodintro
  iapply HK
  isplitl [Hr]; · iexact Hr
  isplitl [HcS]; · iexact HcS
  iexists W; iexact HO

/-! ## Waits -/

/-- A wait for a whole round of one of the device's DMA cells: the round's payload. -/
theorem step_wait (c : Dev nD) (sm : DmaSem sig) (h4 : 4 ≤ sm.val) (r : ℕ) (hd : (Rd A).duties (dCell c sm) r = {false}) (l : List Debt)
    (hl : ∀ e ∈ l, lvS (.dma sm) < lvS e.2.1) {sp sp' : Space} {s : Shape} {e : EltTy} (src : Memref sig .tc sp s e) (dst : Memref sig .tc sp' s e)
    (h1 : src.view.WordExact) (h2 : dst.view.WordExact) (hN : dst.view.dmaCredit = amt sm.val) (Kt : PUnit → sProp 𝕄) :
    iprop(records A K ∗ crd c sm (amt sm.val) ∗ owesE c l ∗ posn c sm r
        ∗ ((owesE c l ∗ posn c sm (r + 1) ∗ reached ER (dCell c sm) (r + 1) ∗ payD A c sm.val r) -∗ Kt ⟨⟩))
      ⊢ WP c (Prog.lift (.waitDma2 sm src dst h1 h2)) Kt := by
  unfold owesE
  iintro ⟨#HR, Hc, ⟨%W, HO⟩, Hat, HK⟩
  rw [← hN]
  iapply (Rounds.wp_wait_rest_token 𝒱₀ ER (Rd A) (c : Thread nD τ) none (κ := K (c, kd sm h4))
      (wpE_waitDma2_eq 𝒱₀ (c : Thread nD τ) none Set.univ) (Set.mem_univ _) () (O := tal c l) (W := W) (R := r) (m := 0) (T := ∅)
      (by rw [Nat.zero_add, expect_of A c sm r hd, ← hN])) $$ [Hc HO Hat]
  · isplitr; · iapply (inv_d A K c sm h4); iexact HR
    isplitl [Hc]; · iexact Hc
    isplitl [HO]; · iexact HO
    isplitr; · iapply (mayWait_tal c (.dma sm) l hl); iapply (rec_lev A K); iexact HR
    iexact Hat
  iintro ⟨HO, Hat, Hrc, Hpay⟩
  ihave Hp := (Entails.of_eq (rest_of A c sm r hd)) $$ Hpay
  rw [wp_ret]; imodintro
  iapply HK
  isplitl [HO]; · iexists (insert (SemLoc.dma sm, ()) W); iexact HO
  isplitl [Hat]; · iexact Hat
  isplitl [Hrc]; · iexact Hrc
  iexact Hp

theorem step_waitO (c : Dev nD) (sm : DmaSem sig) (h8 : 8 ≤ sm.val) (aS : amt sm.val = NO) (l : List Debt)
    (hl : ∀ e ∈ l, lvS (.dma sm) < lvS e.2.1) (s s' b : Fin 4) (Kt : PUnit → sProp 𝕄) :
    iprop(records A K ∗ crd c sm NO ∗ owesE c l ∗ posn c sm 0
        ∗ ((owesE c l ∗ posn c sm 1 ∗ payD A c sm.val 0) -∗ Kt ⟨⟩))
      ⊢ WP c (waitO sm s s' b) Kt := by
  unfold waitO
  iintro ⟨#HR, Hc, HO, Hat, HK⟩
  iapply (step_wait A K c sm (by omega) 0 (duties_0 A c sm (by omega)) l hl (slab s b) (slab s' b) _ _ aS.symm Kt)
  rw [aS]
  isplitr; · iexact HR
  isplitl [Hc]; · iexact Hc
  isplitl [HO]; · iexact HO
  isplitl [Hat]; · iexact Hat
  iintro ⟨HO, Hat, -, Hp⟩
  iapply HK
  isplitl [HO]; · iexact HO
  isplitl [Hat]; · iexact Hat
  iexact Hp

theorem step_waitL (c : Dev nD) (sm : DmaSem sig) (h8 : 8 ≤ sm.val) (aS : amt sm.val = NL) (l : List Debt)
    (hl : ∀ e ∈ l, lvS (.dma sm) < lvS e.2.1) (s s' : Fin 4) (Kt : PUnit → sProp 𝕄) :
    iprop(records A K ∗ crd c sm NL ∗ owesE c l ∗ posn c sm 0
        ∗ ((owesE c l ∗ posn c sm 1 ∗ payD A c sm.val 0) -∗ Kt ⟨⟩))
      ⊢ WP c (waitL sm s s') Kt := by
  unfold waitL
  iintro ⟨#HR, Hc, HO, Hat, HK⟩
  iapply (step_wait A K c sm (by omega) 0 (duties_0 A c sm (by omega)) l hl (lslot s) (lslot s') _ _ aS.symm Kt)
  rw [aS]
  isplitr; · iexact HR
  isplitl [Hc]; · iexact Hc
  isplitl [HO]; · iexact HO
  isplitl [Hat]; · iexact Hat
  iintro ⟨HO, Hat, -, Hp⟩
  iapply HK
  isplitl [HO]; · iexact HO
  isplitl [Hat]; · iexact Hat
  iexact Hp

/-! ## Loads of keys and values -/

/-- A pair of load cells about to be used for round `r`: the tokens, and that the round is reached. -/
def ready (c : Dev nD) (s : Fin 2) (r : ℕ) : sProp 𝕄 :=
  iprop(tok c (kSem s) r ∗ tok c (vSem s) r ∗ reached ER (dCell c (kSem s)) r ∗ reached ER (dCell c (vSem s)) r)
/-- The two slots, holding batch `b`, and holding anything. -/
def slotAt (c : Dev nD) (s : Fin 2) (b : Fin 4) : sProp 𝕄 := iprop(kPts c s (kSlot A c b) ∗ vPts c s (vSlot A c b))
def slotAny (c : Dev nD) (s : Fin 2) : sProp 𝕄 := iprop((∃ f, kPts c s f) ∗ ∃ f, vPts c s f)
def srcs (c : Dev nD) (b : Fin 4) : sProp 𝕄 := iprop(kSrcPts A c b ∗ vSrcPts A c b)
/-- The pair in flight. -/
def flying (c : Dev nD) (s : Fin 2) : sProp 𝕄 := iprop(crd c (kSem s) NK ∗ crd c (vSem s) NK)

theorem slotAt_any (c : Dev nD) (s : Fin 2) (b : Fin 4) : slotAt A c s b ⊢ slotAny c s := by
  unfold slotAt slotAny
  iintro ⟨Hk, Hv⟩
  isplitl [Hk]; · iexists _; iexact Hk
  iexists _; iexact Hv

theorem step_startLoad (c : Dev nD) (b : Fin 4) (s : Fin 2) (r : ℕ) (hb : b.val = s.val + 2 * r) (hr : r < 2) (Kt : PUnit → sProp 𝕄) :
    iprop(records A K ∗ slotAny c s ∗ srcs A c b ∗ ready c s r ∗ (flying c s -∗ Kt ⟨⟩))
      ⊢ WP c (startLoad b s) Kt := by
  have hdk : (Rd A).duties (dCell c (kSem s)) r = {false} := by
    have h4 : 4 ≤ (kSem s).val := Nat.le_add_right _ _
    have h8 : (kSem s).val < 8 := by show 4 + s.val < 8; omega
    rcases Nat.lt_or_ge r 1 with h | h
    · rw [show r = 0 by omega]; exact duties_0 A c (kSem s) h4
    · rw [show r = 1 by omega]; exact duties_1 A c (kSem s) h4 h8
  have hdv : (Rd A).duties (dCell c (vSem s)) r = {false} := by
    have h4 : 4 ≤ (vSem s).val := by show 4 ≤ 6 + s.val; omega
    have h8 : (vSem s).val < 8 := by show 6 + s.val < 8; omega
    rcases Nat.lt_or_ge r 1 with h | h
    · rw [show r = 0 by omega]; exact duties_0 A c (vSem s) h4
    · rw [show r = 1 by omega]; exact duties_1 A c (vSem s) h4 h8
  unfold startLoad slotAny srcs ready flying
  simp only [Prog.lift, Prog.bind_op, Prog.bind_ret, Prog.pure_eq_ret]
  iintro ⟨#HR, ⟨⟨%fk, Hk⟩, %fv, Hv⟩, ⟨Hks, Hvs⟩, ⟨HtK, HtV, HrK, HrV⟩, HK⟩
  unfold kPts vPts kSrcPts vSrcPts at *
  iapply (Rounds.wp_copy_pointsTo 𝒱₀ ER (Rd A) (c : Thread nD τ) none (src := kSrc b) (dst := kDst s) (sem := .dma (kSem s)) (κ := K (c, kd (kSem s) (Nat.le_add_right _ _)))
    (fd := fk) (r := r) (d := false) (hdk.symm ▸ Finset.mem_singleton_self false) () NK rfl
    (show amt (4 + s.val) = NK from if_pos (by omega))
    (by
      show _ ⊢ payD A c (4 + s.val) r
      rw [pay_k A c s b r hb]; unfold kPts kSrcPts
      exact sep_mono_left (Entails.of_eq (pointsTo_congr fun i hi => land_K A c b s fk i hi)))) $$ [Hks Hk HtK HrK]
  · isplitr; · iapply (inv_d A K c (kSem s) (Nat.le_add_right _ _)); iexact HR
    isplitl [Hks]; · iexact Hks
    isplitl [Hk]; · iexact Hk
    isplitl [HtK] <;> iassumption
  iintro HcK
  iapply (Rounds.wp_copy_pointsTo 𝒱₀ ER (Rd A) (c : Thread nD τ) none (src := vSrc b) (dst := vDst s) (sem := .dma (vSem s))
    (κ := K (c, kd (vSem s) (show 4 ≤ 6 + s.val by omega)))
    (fd := fv) (r := r) (d := false) (hdv.symm ▸ Finset.mem_singleton_self false) () NK rfl
    (show amt (6 + s.val) = NK from if_pos (by omega))
    (by
      show _ ⊢ payD A c (6 + s.val) r
      rw [pay_v A c s b r hb]; unfold vPts vSrcPts
      exact sep_mono_left (Entails.of_eq (pointsTo_congr fun i hi => land_V A c b s fv i hi)))) $$ [Hvs Hv HtV HrV]
  · isplitr; · iapply (inv_d A K c (vSem s) (show 4 ≤ 6 + s.val by omega)); iexact HR
    isplitl [Hvs]; · iexact Hvs
    isplitl [Hv]; · iexact Hv
    isplitl [HtV] <;> iassumption
  iintro HcV
  rw [wp_ret]; imodintro
  iapply HK
  isplitl [HcK] <;> iassumption

/-- The pair's positions, and that both are at round `r`. -/
def posLd (c : Dev nD) (s : Fin 2) (r : ℕ) : sProp 𝕄 := iprop(posn c (kSem s) r ∗ posn c (vSem s) r)
def rchLd (c : Dev nD) (s : Fin 2) (r : ℕ) : sProp 𝕄 := iprop(reached ER (dCell c (kSem s)) r ∗ reached ER (dCell c (vSem s)) r)

theorem step_waitLoad (c : Dev nD) (b : Fin 4) (s : Fin 2) (r : ℕ) (hb : b.val = s.val + 2 * r) (hr : r < 2) (l : List Debt)
    (hl : ∀ e ∈ l, 0 < lvS e.2.1) (Kt : PUnit → sProp 𝕄) :
    iprop(records A K ∗ flying c s ∗ owesE c l ∗ posLd c s r
        ∗ ((owesE c l ∗ posLd c s (r + 1) ∗ rchLd c s (r + 1) ∗ slotAt A c s b ∗ srcs A c b) -∗ Kt ⟨⟩))
      ⊢ WP c (waitLoad b s) Kt := by
  have hk4 : 4 ≤ (kSem s).val := Nat.le_add_right _ _
  have hv4 : 4 ≤ (vSem s).val := by show 4 ≤ 6 + s.val; omega
  have hk8 : (kSem s).val < 8 := by show 4 + s.val < 8; omega
  have hv8 : (vSem s).val < 8 := by show 6 + s.val < 8; omega
  have hd : ∀ sm : DmaSem sig, 4 ≤ sm.val → sm.val < 8 → (Rd A).duties (dCell c sm) r = {false} := fun sm h4 h8 => by
    rcases Nat.lt_or_ge r 1 with h | h
    · rw [show r = 0 by omega]; exact duties_0 A c sm h4
    · rw [show r = 1 by omega]; exact duties_1 A c sm h4 h8
  have ak : amt (kSem s).val = NK := if_pos hk8
  have av : amt (vSem s).val = NK := if_pos hv8
  have lk : lvS (.dma (kSem s)) = 0 := by
    show (if 12 ≤ 4 + s.val ∧ 4 + s.val < 16 ∨ 4 + s.val = 26 then 2 else if 20 ≤ 4 + s.val ∧ 4 + s.val < 24 ∨ 4 + s.val = 27 then 3 else 0) = 0
    rw [if_neg (by omega), if_neg (by omega)]
  have lv' : lvS (.dma (vSem s)) = 0 := by
    show (if 12 ≤ 6 + s.val ∧ 6 + s.val < 16 ∨ 6 + s.val = 26 then 2 else if 20 ≤ 6 + s.val ∧ 6 + s.val < 24 ∨ 6 + s.val = 27 then 3 else 0) = 0
    rw [if_neg (by omega), if_neg (by omega)]
  unfold waitLoad flying posLd rchLd slotAt srcs
  iintro ⟨#HR, ⟨HcK, HcV⟩, HO, ⟨HaK, HaV⟩, HK⟩
  iapply (step_then (c := c) (BI.Entails.refl _))
  iapply (step_wait A K c (kSem s) hk4 r (hd _ hk4 hk8) l (by rw [lk]; exact hl) (kSrc b) (kDst s) _ _ ak.symm)
  rw [ak]
  isplitr; · iexact HR
  isplitl [HcK]; · iexact HcK
  isplitl [HO]; · iexact HO
  isplitl [HaK]; · iexact HaK
  iintro ⟨HO, HaK, HrK, HpK⟩
  iapply (step_wait A K c (vSem s) hv4 r (hd _ hv4 hv8) l (by rw [lv']; exact hl) (vSrc b) (vDst s) _ _ av.symm)
  rw [av]
  isplitr; · iexact HR
  isplitl [HcV]; · iexact HcV
  isplitl [HO]; · iexact HO
  isplitl [HaV]; · iexact HaV
  iintro ⟨HO, HaV, HrV, HpV⟩
  ihave HpK := (Entails.of_eq (pay_k A c s b r hb)) $$ HpK
  ihave HpV := (Entails.of_eq (pay_v A c s b r hb)) $$ HpV
  icases HpK with ⟨HpK, HsK⟩
  icases HpV with ⟨HpV, HsV⟩
  iapply HK
  isplitl [HO]; · iexact HO
  isplitl [HaK HaV]; · isplitl [HaK] <;> iassumption
  isplitl [HrK HrV]; · isplitl [HrK] <;> iassumption
  isplitl [HpK HpV]; · isplitl [HpK] <;> iassumption
  isplitl [HsK] <;> iassumption

/-! ## The local steps -/

def whole (c : Dev nD) (r : Ref sig .tc) (f : r.ty.Contents (Elt F)) : sProp 𝕄 := ((c : Thread nD τ).loc r) ↦{fullShare} f

theorem rO_sub (b : Fin 4) (h : Fin 8) : (coM.access (rO b h)).set ⊆ (slab 0 b).view.set := fun i hi => by
  refine (slab_mem 0 b i).mpr ?_
  rw [show ((coM.access (rO b h)).set : Finset S4x1024x1024.Idx) = (rO b h).set from View.set_slice_whole _ _, Rect.mem_set_unit] at hi
  have h0 := hi 0
  have h1 := hi 1
  change 0 ≤ (i 0 : ℕ) ∧ (i 0 : ℕ) < 0 + 1 at h0
  change 256 * b.val ≤ (i 1 : ℕ) ∧ (i 1 : ℕ) < 256 * b.val + 256 at h1
  exact ⟨show (i 0 : ℕ) = 0 by omega, h1.1, h1.2⟩
theorem rSlab_sub (s b : Fin 4) : (coM.access (rSlab s b)).set ⊆ (slab s b).view.set :=
  (((View.set_reshape _ _).trans rfl : (slab s b).view.set = (coM.access (rSlab s b)).set)).symm.subset
theorem rLs_sub (s : Fin 4) : (clM.access (rLs s)).set ⊆ (lslot s).view.set :=
  (((View.set_reshape _ _).trans rfl : (lslot s).view.set = (clM.access (rLs s)).set)).symm.subset
theorem rL_sub (b : Fin 4) (h : Fin 8) : (clM.access (rL b h)).set ⊆ (lslot 0).view.set := fun i hi => by
  refine (lslot_mem 0 i).mpr ?_
  rw [show ((clM.access (rL b h)).set : Finset S4x256x128.Idx) = (rL b h).set from View.set_slice_whole _ _, Rect.mem_set_unit] at hi
  have h0 := hi 0
  change 0 ≤ (i 0 : ℕ) ∧ (i 0 : ℕ) < 0 + 1 at h0
  show (i 0 : ℕ) = 0; omega
theorem rK_sub (s : Fin 2) (h : Fin 8) : (kbM.access (rKV s h)).set ⊆ (kDst s).view.set := fun i hi => by
  refine (kDst_mem s i).mpr ?_
  rw [show ((kbM.access (rKV s h)).set : Finset S2x1024x1024.Idx) = (rKV s h).set from View.set_slice_whole _ _, Rect.mem_set_unit] at hi
  have h0 := hi 0
  change s.val ≤ (i 0 : ℕ) ∧ (i 0 : ℕ) < s.val + 1 at h0
  omega
theorem rV_sub (s : Fin 2) (h : Fin 8) : (vbM.access (rKV s h)).set ⊆ (vDst s).view.set := fun i hi => by
  refine (vDst_mem s i).mpr ?_
  rw [show ((vbM.access (rKV s h)).set : Finset S2x1024x1024.Idx) = (rKV s h).set from View.set_slice_whole _ _, Rect.mem_set_unit] at hi
  have h0 := hi 0
  change s.val ≤ (i 0 : ℕ) ∧ (i 0 : ℕ) < s.val + 1 at h0
  omega

theorem hz : (![0, 0] : Fin 2 → Nat) = fun _ => 0 := funext fun a => by fin_cases a <;> rfl
theorem read_x (f : (cc0_stg0_0 : Ref sig .tc).ty.Contents (Elt F)) : xM.view.readAt (Elt F) rAll.toLoadRect f = f :=
  Memref.readAt_unit_zero (Elt F) cc0_stg0_0 hz _ f
theorem read_wq (f : (cc0_stg1_0 : Ref sig .tc).ty.Contents (Elt F)) : wqM.view.readAt (Elt F) rAll.toLoadRect f = f :=
  Memref.readAt_unit_zero (Elt F) cc0_stg1_0 hz _ f
theorem read_wo (f : (cc0_stg2_0 : Ref sig .tc).ty.Contents (Elt F)) : woM.view.readAt (Elt F) rAll.toLoadRect f = f :=
  Memref.readAt_unit_zero (Elt F) cc0_stg2_0 hz _ f
theorem write_q (f w : (cc0_scratch0 : Ref sig .tc).ty.Contents (Elt F)) :
    (qM.access rAll : View sig .tc _ _ _).write (Elt F) f w Finset.univ = w :=
  Memref.write_access_unit_zero_univ (Elt F) cc0_scratch0 hz _ f w

/-- Batch `b`'s own sums up to column `n`, and the denominators up to column `n`. -/
def sums (c : Dev nD) (b : Fin 4) (n : ℕ) : sProp 𝕄 := iprop(∃ f, ⌜SumsTo A c b n f⌝ ∗ slabPts c 0 b fullShare f)
def dens (c : Dev nD) (n : ℕ) : sProp 𝕄 := iprop(∃ f, ⌜DensTo A c n f⌝ ∗ lPts c 0 fullShare f)

theorem step_prep (c : Dev nD) (Kt : PUnit → sProp 𝕄) :
    iprop(whole c cc0_stg0_0 (A.x c) ∗ whole c cc0_stg1_0 (A.wq c) ∗ (∃ f, whole c cc0_scratch0 f) ∗ (∃ f, lPts c 0 fullShare f)
        ∗ ((whole c cc0_stg0_0 (A.x c) ∗ whole c cc0_stg1_0 (A.wq c) ∗ whole c cc0_scratch0 (qA A c) ∗ dens A c 0) -∗ Kt ⟨⟩))
      ⊢ WP c prep Kt := by
  unfold prep dens
  simp only [Prog.lift, Prog.bind_op, Prog.bind_ret, Prog.pure_eq_ret]
  iintro ⟨Hx, Hw, ⟨%fq, Hq⟩, ⟨%fl, Hl⟩, HK⟩
  unfold whole lPts at *
  iapply (wp_load 𝒱₀ (c : Thread nD τ) none Set.univ (m := xM) (Finset.subset_univ _)) $$ Hx; iintro Hx
  rw [read_x]
  iapply (wp_load 𝒱₀ (c : Thread nD τ) none Set.univ (m := wqM) (Finset.subset_univ _)) $$ Hw; iintro Hw
  rw [read_wq]
  iapply (wp_load 𝒱₀ (c : Thread nD τ) none Set.univ (m := qM) (Finset.subset_univ _)) $$ Hq; iintro Hq
  iapply (wp_store 𝒱₀ (c : Thread nD τ) none Set.univ (m := qM) (r := rAll) (Mk := Finset.univ) (Finset.subset_univ _)) $$ Hq; iintro Hq
  rw [write_q]
  iapply (wp_load_rect 𝒱₀ (c : Thread nD τ) none Set.univ (m := clM) (r := rLs 0) (rLs_sub 0)) $$ Hl; iintro Hl
  iapply (wp_store 𝒱₀ (c : Thread nD τ) none Set.univ (m := clM) (r := rLs 0) (Mk := Finset.univ) (rLs_sub 0)) $$ Hl; iintro Hl
  rw [wp_ret]; imodintro
  iapply HK
  isplitl [Hx]; · iexact Hx
  isplitl [Hw]; · iexact Hw
  isplitl [Hq]; · iexact Hq
  iexists _
  isplitr
  rotate_left
  · iexact Hl
  · ipureintro; exact densTo_zero A c fl

theorem step_head (c : Dev nD) (s : Fin 2) (b : Fin 4) (h : Fin 8) (Kt : PUnit → sProp 𝕄) :
    iprop(whole c cc0_scratch0 (qA A c) ∗ slotAt A c s b ∗ sums A c b (128 * h.val) ∗ dens A c (8 * b.val + h.val)
        ∗ ((whole c cc0_scratch0 (qA A c) ∗ slotAt A c s b ∗ sums A c b (128 * (h.val + 1)) ∗ dens A c (8 * b.val + h.val + 1)) -∗ Kt ⟨⟩))
      ⊢ WP c (head s b h) Kt := by
  unfold head sums dens slotAt
  simp only [Prog.lift, Prog.bind_op, Prog.bind_ret, Prog.pure_eq_ret]
  iintro ⟨Hq, ⟨Hk, Hv⟩, ⟨%fo, %ho, Ho⟩, ⟨%fl, %hl, Hl⟩, HK⟩
  unfold whole lPts slabPts kPts vPts at *
  iapply (wp_load 𝒱₀ (c : Thread nD τ) none Set.univ (m := qM) (Finset.subset_univ _)) $$ Hq; iintro Hq
  rw [read_q]
  iapply (wp_load_rect 𝒱₀ (c : Thread nD τ) none Set.univ (m := kbM) (r := rKV s h) (rK_sub s h)) $$ Hk; iintro Hk
  rw [← View.readAt_rect, read_k]
  iapply (wp_load_rect 𝒱₀ (c : Thread nD τ) none Set.univ (m := vbM) (r := rKV s h) (rV_sub s h)) $$ Hv; iintro Hv
  rw [← View.readAt_rect, read_v]
  iapply (wp_load_rect 𝒱₀ (c : Thread nD τ) none Set.univ (m := coM) (r := rO b h) (rO_sub b h)) $$ Ho; iintro Ho
  iapply (wp_store 𝒱₀ (c : Thread nD τ) none Set.univ (m := coM) (r := rO b h) (Mk := Finset.univ) (rO_sub b h)) $$ Ho; iintro Ho
  iapply (wp_load_rect 𝒱₀ (c : Thread nD τ) none Set.univ (m := clM) (r := rL b h) (rL_sub b h)) $$ Hl; iintro Hl
  iapply (wp_store 𝒱₀ (c : Thread nD τ) none Set.univ (m := clM) (r := rL b h) (Mk := Finset.univ) (rL_sub b h)) $$ Hl; iintro Hl
  rw [wp_ret]; imodintro
  iapply HK
  isplitl [Hq]; · iexact Hq
  isplitl [Hk Hv]; · isplitl [Hk] <;> iassumption
  isplitl [Ho]
  · iexists _
    isplitr
    rotate_left
    · iexact Ho
    · ipureintro; exact sumsTo_head A c b h fo ho
  · iexists _
    isplitr
    rotate_left
    · iexact Hl
    · ipureintro; exact densTo_head A c b h fl hl

end Cert.KernelIdealProof

end
-- ==== Proof.Local.lean ====
/-
# The local steps, joined

The eight heads of a batch; the additions; the normalisation and the projection of a batch's rows.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (c : Dev nD)

/-! ## Buffers whose contents have reached their final form -/

theorem sums_all (b : Fin 4) : sums A c b (128 * 8) ⊢ slabPts c 0 b fullShare (Co A c) := by
  unfold sums slabPts
  iintro ⟨%f, %hf, Hs⟩
  iapply (Entails.of_eq (pointsTo_congr fun i hi => ?_)) $$ Hs
  obtain ⟨h0, h1, h2⟩ := (slab_mem 0 b i).mp hi
  have := (i 2).isLt
  change (i 2 : ℕ) < 1024 at this
  exact hf i h0 h1 h2 (by omega)
theorem dens_all : dens A c 32 ⊢ lPts c 0 fullShare (Cl A c) := by
  unfold dens lPts
  iintro ⟨%f, %hf, Hs⟩
  iapply (Entails.of_eq (pointsTo_congr fun i hi => ?_)) $$ Hs
  exact hf i ((lslot_mem 0 i).mp hi) (by omega)
theorem sums_none (b : Fin 4) : iprop(∃ f, slabPts c 0 b fullShare f) ⊢ sums A c b 0 := by
  unfold sums
  iintro ⟨%f, Hs⟩
  iexists f
  isplitr
  · ipureintro; exact fun i _ _ _ h => absurd h (Nat.not_lt_zero _)
  · iexact Hs

/-! ## The heads of a batch -/

theorem heads_at (s : Fin 2) (b : Fin 4) (h : Fin 8) {α : Type} (rest : P F α) (n n' : ℕ) (hn : n = 128 * h.val) (hn' : n' = 8 * b.val + h.val)
    (Kt : α → sProp 𝕄) (R : sProp 𝕄)
    (hr : iprop(whole c cc0_scratch0 (qA A c) ∗ slotAt A c s b ∗ sums A c b (128 * (h.val + 1)) ∗ dens A c (8 * b.val + h.val + 1) ∗ R) ⊢ WP c rest Kt) :
    iprop(whole c cc0_scratch0 (qA A c) ∗ slotAt A c s b ∗ sums A c b n ∗ dens A c n' ∗ R) ⊢ WP c (head s b h >>= fun _ => rest) Kt := by
  subst hn hn'
  iintro ⟨Hq, Hs, Ho, Hl, HR⟩
  iapply (step_then (c := c) (BI.Entails.refl _))
  iapply (step_head A c s b h)
  isplitl [Hq]; · iexact Hq
  isplitl [Hs]; · iexact Hs
  isplitl [Ho]; · iexact Ho
  isplitl [Hl]; · iexact Hl
  iintro ⟨Hq, Hs, Ho, Hl⟩
  iapply hr
  isplitl [Hq]; · iexact Hq
  isplitl [Hs]; · iexact Hs
  isplitl [Ho]; · iexact Ho
  isplitl [Hl]; · iexact Hl
  iexact HR

theorem step_heads (s : Fin 2) (b : Fin 4) (Kt : PUnit → sProp 𝕄) :
    iprop(whole c cc0_scratch0 (qA A c) ∗ slotAt A c s b ∗ (∃ f, slabPts c 0 b fullShare f) ∗ dens A c (8 * b.val)
        ∗ ((whole c cc0_scratch0 (qA A c) ∗ slotAt A c s b ∗ slabPts c 0 b fullShare (Co A c) ∗ dens A c (8 * b.val + 8)) -∗ Kt ⟨⟩))
      ⊢ WP c (heads s b) Kt := by
  unfold heads
  iintro ⟨Hq, Hs, Ho, Hl, HK⟩
  ihave Ho := (sums_none A c b) $$ Ho
  iapply (heads_at A c s b 0 _ 0 (8 * b.val) rfl rfl Kt _ (heads_at A c s b 1 _ _ _ rfl rfl Kt _ (heads_at A c s b 2 _ _ _ rfl rfl Kt _
    (heads_at A c s b 3 _ _ _ rfl rfl Kt _ (heads_at A c s b 4 _ _ _ rfl rfl Kt _ (heads_at A c s b 5 _ _ _ rfl rfl Kt _
    (heads_at A c s b 6 _ _ _ rfl rfl Kt _ ?_))))))) $$ [Hq Hs Ho Hl HK]
  rotate_left
  · isplitl [Hq]; · iexact Hq
    isplitl [Hs]; · iexact Hs
    isplitl [Ho]; · iexact Ho
    isplitl [Hl]; · iexact Hl
    iexact HK
  iintro ⟨Hq, Hs, Ho, Hl, HK⟩
  iapply (step_head A c s b 7)
  isplitl [Hq]; · iexact Hq
  isplitl [Hs]; · iexact Hs
  isplitl [Ho]; · iexact Ho
  isplitl [Hl]; · iexact Hl
  iintro ⟨Hq, Hs, Ho, Hl⟩
  iapply HK
  isplitl [Hq]; · iexact Hq
  isplitl [Hs]; · iexact Hs
  isplitl [Ho]; · iapply (sums_all A c b); iexact Ho
  iexact Hl

/-! ## The additions -/

theorem step_mergeL (Kt : PUnit → sProp 𝕄) :
    iprop(lPts c 0 fullShare.right (Cl A c) ∗ lPts c 1 fullShare (Cl A c) ∗ (∃ f, lPts c 2 fullShare f)
        ∗ ((lPts c 0 fullShare.right (Cl A c) ∗ lPts c 1 fullShare (Cl A c) ∗ lPts c 2 fullShare (Cl A c)) -∗ Kt ⟨⟩))
      ⊢ WP c mergeL Kt := by
  unfold mergeL
  simp only [Prog.lift, Prog.bind_op, Prog.bind_ret, Prog.pure_eq_ret]
  iintro ⟨H0, H1, ⟨%f, H2⟩, HK⟩
  unfold lPts at *
  iapply (wp_load_rect 𝒱₀ (c : Thread nD τ) none Set.univ (m := clM) (r := rLs 0) (rLs_sub 0)) $$ H0; iintro H0
  rw [← View.readAt_rect, read_lslot A c 0 (lLn A c) (fun _ _ => rfl)]
  iapply (wp_load_rect 𝒱₀ (c : Thread nD τ) none Set.univ (m := clM) (r := rLs 1) (rLs_sub 1)) $$ H1; iintro H1
  rw [← View.readAt_rect, read_lslot A c 1 (lLn A (p1 c)) (fun _ _ => rfl)]
  iapply (wp_load_rect 𝒱₀ (c : Thread nD τ) none Set.univ (m := clM) (r := rLs 2) (rLs_sub 2)) $$ H2; iintro H2
  iapply (wp_store 𝒱₀ (c : Thread nD τ) none Set.univ (m := clM) (r := rLs 2) (Mk := Finset.univ) (rLs_sub 2)) $$ H2; iintro H2
  rw [wp_ret]; imodintro
  iapply HK
  isplitl [H0]; · iexact H0
  isplitl [H1]; · iexact H1
  iapply (Entails.of_eq (pointsTo_congr fun i hi => store_mergeL A c f i hi)); iexact H2

theorem mergeO_eq (b : Fin 4) (f : (cc0_scratch3 : Ref sig .tc).ty.Contents (Elt F)) :
    ((slab 2 b).view.loc (c : Thread nD τ) ↦[(slab 2 b).view.set]{fullShare}
      (coM.access (rSlab 2 b)).write (Elt F) f (pMO (oBlk (oLn A c) b) (oBlk (oLn A (p1 c)) b)) Finset.univ : sProp 𝕄)
      = ((slab 2 b).view.loc (c : Thread nD τ) ↦[(slab 2 b).view.set]{fullShare} Co A c) :=
  pointsTo_congr fun i hi => store_mergeO A c b f i hi

theorem step_mergeO (b : Fin 4) (Kt : PUnit → sProp 𝕄) :
    iprop(slabPts c 0 b fullShare.right (Co A c) ∗ slabPts c 1 b fullShare (Co A c) ∗ (∃ f, slabPts c 2 b fullShare f)
        ∗ ((slabPts c 0 b fullShare.right (Co A c) ∗ slabPts c 1 b fullShare (Co A c) ∗ slabPts c 2 b fullShare (Co A c)) -∗ Kt ⟨⟩))
      ⊢ WP c (mergeO b) Kt := by
  unfold mergeO
  simp only [Prog.lift, Prog.bind_op, Prog.bind_ret, Prog.pure_eq_ret]
  iintro ⟨H0, H1, ⟨%f, H2⟩, HK⟩
  unfold slabPts at *
  iapply (wp_load_rect 𝒱₀ (c : Thread nD τ) none Set.univ (m := coM) (r := rSlab 0 b) (rSlab_sub 0 b)) $$ H0; iintro H0
  rw [← View.readAt_rect, read_slab A c 0 b (oLn A c) (fun _ _ => rfl)]
  iapply (wp_load_rect 𝒱₀ (c : Thread nD τ) none Set.univ (m := coM) (r := rSlab 1 b) (rSlab_sub 1 b)) $$ H1; iintro H1
  rw [← View.readAt_rect, read_slab A c 1 b (oLn A (p1 c)) (fun _ _ => rfl)]
  iapply (wp_load_rect 𝒱₀ (c : Thread nD τ) none Set.univ (m := coM) (r := rSlab 2 b) (rSlab_sub 2 b)) $$ H2; iintro H2
  iapply (wp_store 𝒱₀ (c : Thread nD τ) none Set.univ (m := coM) (r := rSlab 2 b) (Mk := Finset.univ) (rSlab_sub 2 b)) $$ H2; iintro H2
  rw [wp_ret]; imodintro
  iapply HK
  isplitl [H0]; · iexact H0
  isplitl [H1]; · iexact H1
  iapply (Entails.of_eq (mergeO_eq A c b f)); iexact H2

/-! ## The normalisation and the projection -/

theorem step_recip (Kt : FVec F S256x128 .f32 → sProp 𝕄) :
    iprop(lPts c 2 fullShare.right (Cl A c) ∗ lPts c 3 fullShare (Cl A c)
        ∗ ((lPts c 2 fullShare.right (Cl A c) ∗ lPts c 3 fullShare (Cl A c)) -∗ Kt (invA A c)))
      ⊢ WP c recip Kt := by
  unfold recip
  simp only [Prog.lift, Prog.bind_op, Prog.bind_ret, Prog.pure_eq_ret]
  iintro ⟨H2, H3, HK⟩
  unfold lPts at *
  iapply (wp_load_rect 𝒱₀ (c : Thread nD τ) none Set.univ (m := clM) (r := rLs 2) (rLs_sub 2)) $$ H2; iintro H2
  rw [← View.readAt_rect, read_lslot A c 2 (lMn A c) (fun _ _ => rfl)]
  iapply (wp_load_rect 𝒱₀ (c : Thread nD τ) none Set.univ (m := clM) (r := rLs 3) (rLs_sub 3)) $$ H3; iintro H3
  rw [← View.readAt_rect, read_lslot A c 3 (lMn A (p2 c)) (fun _ _ => rfl)]
  rw [wp_ret, show pInv (lBlk (lMn A c)) (lBlk (lMn A (p2 c))) = invA A c from rfl]; imodintro
  iapply HK
  isplitl [H2] <;> iassumption

def accTo (b : Fin 4) (n : ℕ) : sProp 𝕄 := iprop(∃ f, ⌜HeadsTo A c b n f⌝ ∗ whole c cc0_scratch5 f)
def rows (n : ℕ) : sProp 𝕄 := iprop(∃ f, ⌜RowsTo A c n f⌝ ∗ whole c cc0_stg3_0 f)

theorem norm_at (b : Fin 4) (h : Fin 8) {α : Type} (rest : P F α) (n : ℕ) (hn : n = 128 * h.val) (Kt : α → sProp 𝕄) (R : sProp 𝕄)
    (hr : iprop(accTo A c b (128 * (h.val + 1)) ∗ R) ⊢ WP c rest Kt) :
    iprop(accTo A c b n ∗ R) ⊢ WP c (norm (invA A c) (totA A c b) b h >>= fun _ => rest) Kt := by
  subst hn
  refine step_then ?_
  unfold norm accTo
  simp only [Prog.lift, Prog.bind_op, Prog.bind_ret, Prog.pure_eq_ret]
  iintro ⟨⟨%f, %hf, Ha⟩, HR⟩
  unfold whole at *
  iapply (wp_load 𝒱₀ (c : Thread nD τ) none Set.univ (m := accM) (Finset.subset_univ _)) $$ Ha; iintro Ha
  iapply (wp_store 𝒱₀ (c : Thread nD τ) none Set.univ (m := accM) (r := rQ b h) (Mk := Finset.univ) (Finset.subset_univ _)) $$ Ha; iintro Ha
  rw [wp_ret]; imodintro
  iapply hr
  unfold accTo whole
  isplitl [Ha]
  · iexists _
    isplitr
    rotate_left
    · iexact Ha
    · ipureintro; exact headsTo_norm A c b h f hf
  · iexact HR

theorem step_project (b : Fin 4) (Kt : PUnit → sProp 𝕄) :
    iprop(accTo A c b (128 * 8) ∗ whole c cc0_stg2_0 (A.wo c) ∗ rows A c (256 * b.val)
        ∗ (((∃ f, whole c cc0_scratch5 f) ∗ whole c cc0_stg2_0 (A.wo c) ∗ rows A c (256 * (b.val + 1))) -∗ Kt ⟨⟩))
      ⊢ WP c (project b) Kt := by
  unfold project accTo rows
  simp only [Prog.lift, Prog.bind_op, Prog.bind_ret, Prog.pure_eq_ret]
  iintro ⟨⟨%f, %hf, Ha⟩, Hw, ⟨%g, %hg, Ho⟩, HK⟩
  unfold whole at *
  iapply (wp_load 𝒱₀ (c : Thread nD τ) none Set.univ (m := accM) (Finset.subset_univ _)) $$ Ha; iintro Ha
  rw [read_acc A c b f (fun i h0 h1 => hf i h0 h1 (i 1).isLt)]
  iapply (wp_load 𝒱₀ (c : Thread nD τ) none Set.univ (m := woM) (Finset.subset_univ _)) $$ Hw; iintro Hw
  rw [read_wo]
  iapply (wp_load 𝒱₀ (c : Thread nD τ) none Set.univ (m := outM) (Finset.subset_univ _)) $$ Ho; iintro Ho
  iapply (wp_store 𝒱₀ (c : Thread nD τ) none Set.univ (m := outM) (r := rRow b) (Mk := Finset.univ) (Finset.subset_univ _)) $$ Ho; iintro Ho
  rw [wp_ret]; imodintro
  iapply HK
  isplitl [Ha]; · iexists f; iexact Ha
  isplitl [Hw]; · iexact Hw
  iexists _
  isplitr
  rotate_left
  · iexact Ho
  · ipureintro; exact rowsTo_project A c b g hg

theorem step_finish (b : Fin 4) (Kt : PUnit → sProp 𝕄) :
    iprop(slabPts c 2 b fullShare.right (Co A c) ∗ slabPts c 3 b fullShare (Co A c) ∗ (∃ f, whole c cc0_scratch5 f)
        ∗ whole c cc0_stg2_0 (A.wo c) ∗ rows A c (256 * b.val)
        ∗ ((slabPts c 2 b fullShare.right (Co A c) ∗ slabPts c 3 b fullShare (Co A c) ∗ (∃ f, whole c cc0_scratch5 f)
            ∗ whole c cc0_stg2_0 (A.wo c) ∗ rows A c (256 * (b.val + 1))) -∗ Kt ⟨⟩))
      ⊢ WP c (finish (invA A c) b) Kt := by
  unfold finish
  simp only [Prog.lift, Prog.bind_op, Prog.bind_ret]
  iintro ⟨H2, H3, ⟨%f, Ha⟩, Hw, Ho, HK⟩
  unfold slabPts at *
  iapply (wp_load_rect 𝒱₀ (c : Thread nD τ) none Set.univ (m := coM) (r := rSlab 2 b) (rSlab_sub 2 b)) $$ H2; iintro H2
  rw [← View.readAt_rect, read_slab A c 2 b (oMn A c) (fun _ _ => rfl)]
  iapply (wp_load_rect 𝒱₀ (c : Thread nD τ) none Set.univ (m := coM) (r := rSlab 3 b) (rSlab_sub 3 b)) $$ H3; iintro H3
  rw [← View.readAt_rect, read_slab A c 3 b (oMn A (p2 c)) (fun _ _ => rfl)]
  iapply (norm_at A c b 0 _ 0 rfl Kt
    iprop(slabPts c 2 b fullShare.right (Co A c) ∗ slabPts c 3 b fullShare (Co A c) ∗ whole c cc0_stg2_0 (A.wo c) ∗ rows A c (256 * b.val)
      ∗ ((slabPts c 2 b fullShare.right (Co A c) ∗ slabPts c 3 b fullShare (Co A c) ∗ (∃ f, whole c cc0_scratch5 f)
          ∗ whole c cc0_stg2_0 (A.wo c) ∗ rows A c (256 * (b.val + 1))) -∗ Kt ⟨⟩)) (norm_at A c b 1 _ _ rfl Kt _ (norm_at A c b 2 _ _ rfl Kt _ (norm_at A c b 3 _ _ rfl Kt _
    (norm_at A c b 4 _ _ rfl Kt _ (norm_at A c b 5 _ _ rfl Kt _ (norm_at A c b 6 _ _ rfl Kt _ (norm_at A c b 7 _ _ rfl Kt _ ?_))))))))
    $$ [H2 H3 Ha Hw Ho HK]
  rotate_left
  · unfold slabPts
    isplitl [Ha]
    · unfold accTo
      iexists f
      isplitr
      · ipureintro; exact fun i _ _ h => absurd h (Nat.not_lt_zero _)
      · iexact Ha
    · isplitl [H2]; · iexact H2
      isplitl [H3]; · iexact H3
      isplitl [Hw]; · iexact Hw
      isplitl [Ho]; · iexact Ho
      iexact HK
  iintro ⟨Ha, H2, H3, Hw, Ho, HK⟩
  iapply (step_project A c b)
  isplitl [Ha]; · iexact Ha
  isplitl [Hw]; · iexact Hw
  isplitl [Ho]; · iexact Ho
  iintro ⟨Ha, Hw, Ho⟩
  iapply HK
  isplitl [H2]; · iexact H2
  isplitl [H3]; · iexact H3
  isplitl [Ha]; · iexact Ha
  isplitl [Hw]; · iexact Hw
  iexact Ho

end Cert.KernelIdealProof

end
-- ==== Proof.Phases.lean ====
/-
# The phases of the body

The handshake, the two exchanges batch by batch, the normalisation, and the last waits.
-/
module

public import proofs.«01_k».proof.Proof.Local

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Option (Fin 24) → ℕ) (c : Dev nD)

/-! ## The handshake -/

theorem step_shake (Kt : PUnit → sProp 𝕄) :
    iprop(records A K ∗ owesE c debts ∗ dutyTok ER (barCell (p1 c)) 0 false ∗ dutyTok ER (barCell (p2 c)) 0 true ∗ landing c 1 ∗ landing c 3
        ∗ cred (tallyAt (barCell c) () 2) ∗ atPos ER (barCell c) 0 ∅ 0
        ∗ ((owesE c (debts.drop 2) ∗ atPos ER (barCell c) 1 ∅ 0 ∗ landing (p1 c) 1 ∗ landing (p2 c) 3) -∗ Kt ⟨⟩))
      ⊢ WP c (shake c) Kt := by
  unfold shake owesE
  rw [dev1_eq, dev2_eq]
  simp only [semSignalWord, semWaitWord, Prog.lift, Prog.bind_op, Prog.bind_ret, Prog.pure_eq_ret]
  iintro ⟨#HR, ⟨%W, HO⟩, Ht1, Ht2, Hl1, Hl3, Hc, Hat, HK⟩
  iapply (Rounds.wp_signal 𝒱₀ ER (Rd A) (c : Thread nD τ) none (dst := (p1 c : Thread nD τ)) (κ := K (p1 c, none))
      (d := false) (by rw [duties_bar]; exact Finset.mem_univ _) rfl () (tal c (debts.drop 1)) rfl)
    $$ [HO Ht1 Hl1]
  · isplitr; · iapply (inv_bar A K (p1 c)); iexact HR
    isplitl [HO]; · iexact HO
    isplitl [Ht1]; · iexact Ht1
    isplitl [Hl1]
    · iapply (Entails.of_eq (show landing c 1 = (Rd A).payload (barCell (p1 c)) 0 false by
        rw [show (Rd A).payload (barCell (p1 c)) 0 false = landing (p1 (p1 c)) 1 from rfl, p1_p1])); iexact Hl1
    · iapply (rch_bar A K (p1 c)); iexact HR
  iintro HO
  iapply (Rounds.wp_signal 𝒱₀ ER (Rd A) (c : Thread nD τ) none (dst := (p2 c : Thread nD τ)) (κ := K (p2 c, none))
      (d := true) (by rw [duties_bar]; exact Finset.mem_univ _) rfl () (tal c (debts.drop 2)) rfl)
    $$ [HO Ht2 Hl3]
  · isplitr; · iapply (inv_bar A K (p2 c)); iexact HR
    isplitl [HO]; · iexact HO
    isplitl [Ht2]; · iexact Ht2
    isplitl [Hl3]
    · iapply (Entails.of_eq (show landing c 3 = (Rd A).payload (barCell (p2 c)) 0 true by
        rw [show (Rd A).payload (barCell (p2 c)) 0 true = landing (p2 (p2 c)) 3 from rfl, p2_p2])); iexact Hl3
    · iapply (rch_bar A K (p2 c)); iexact HR
  iintro HO
  iapply (Rounds.wp_wait_rest_token 𝒱₀ ER (Rd A) (c : Thread nD τ) none (κ := K (c, none))
      (wpE_semWait_eq 𝒱₀ (c : Thread nD τ) none Set.univ) (Set.mem_univ _) () (O := tal c (debts.drop 2)) (W := W) (R := 0) (m := 0) (T := ∅)
      (by rw [expect_bar]; decide)) $$ [Hc HO Hat]
  · isplitr; · iapply (inv_bar A K c); iexact HR
    isplitl [Hc]; · iexact Hc
    isplitl [HO]; · iexact HO
    isplitr; · iapply (mayWait_tal c (.reg barS) (debts.drop 2) (by decide)); iapply (rec_lev A K); iexact HR
    iexact Hat
  iintro ⟨HO, Hat, -, Hpay⟩
  ihave Hp := (Entails.of_eq (rest_bar A c)) $$ Hpay
  icases Hp with ⟨Hl1, Hl3⟩
  rw [wp_ret]; imodintro
  iapply HK
  isplitl [HO]; · iexists _; iexact HO
  isplitl [Hat]; · iexact Hat
  isplitl [Hl1] <;> iassumption

/-! ## The first exchange -/

/-- What batch `b` takes into the first exchange, and what it has after its send. -/
def pre1 (b : Fin 4) : sProp 𝕄 :=
  iprop((∃ f, slabPts c 0 b fullShare f) ∗ (∃ f, slabPts (p1 c) 1 b fullShare f) ∗ tok c (s1Sem b) 0 ∗ tok (p1 c) (r1Sem b) 0)
def post1 (b : Fin 4) : sProp 𝕄 := iprop(slabPts c 0 b fullShare.right (Co A c) ∗ crd c (s1Sem b) NO)

theorem amt_O (n : ℕ) (b : Fin 4) (h8 : 8 ≤ n) (h : n + b.val < 24) : amt (n + b.val) = NO := by
  unfold amt; rw [if_neg (by omega), if_pos h]

theorem step_batch1 (d : Dev nD) (hd : d = p1 c) (s : Fin 2) (b : Fin 4) (l : List Debt) (Kt : PUnit → sProp 𝕄) :
    iprop(records A K ∗ whole c cc0_scratch0 (qA A c) ∗ slotAt A c s b ∗ dens A c (8 * b.val) ∗ pre1 c b ∗ owesE c ((p1, .dma (r1Sem b), NO) :: l)
        ∗ ((whole c cc0_scratch0 (qA A c) ∗ slotAt A c s b ∗ dens A c (8 * b.val + 8) ∗ post1 A c b ∗ owesE c l) -∗ Kt ⟨⟩))
      ⊢ WP c (heads s b >>= fun _ => sendO d 0 1 b (s1Sem b) (r1Sem b)) Kt := by
  unfold pre1 post1
  iintro ⟨#HR, Hq, Hs, Hl, ⟨Ho, Hd, HtS, HtR⟩, HO, HK⟩
  iapply (step_then (c := c) (BI.Entails.refl _))
  iapply (step_heads A c s b)
  isplitl [Hq]; · iexact Hq
  isplitl [Hs]; · iexact Hs
  isplitl [Ho]; · iexact Ho
  isplitl [Hl]; · iexact Hl
  iintro ⟨Hq, Hs, Ho, Hl⟩
  iapply (step_sendO A K c d 0 1 b (s1Sem b) (r1Sem b) (show 4 ≤ 8 + b.val by omega) (show 4 ≤ 12 + b.val by omega)
    (amt_O 8 b (by omega) (by omega)) (amt_O 12 b (by omega) (by omega)) p1 hd l (pay_s1 A c b 0) (pay_r1 A d b 0)
    (fun r q => by rw [hd]; show oLn A (p1 (p1 c)) r q = oLn A c r q; rw [p1_p1]))
  isplitr; · iexact HR
  isplitl [Ho]; · iexact Ho
  isplitl [Hd]; · rw [hd]; iexact Hd
  isplitl [HO]; · iexact HO
  isplitl [HtS]; · iexact HtS
  isplitl [HtR]; · rw [hd]; iexact HtR
  iintro ⟨Ho, HcS, HO⟩
  iapply HK
  isplitl [Hq]; · iexact Hq
  isplitl [Hs]; · iexact Hs
  isplitl [Hl]; · iexact Hl
  isplitl [Ho HcS]; · isplitl [Ho] <;> iassumption
  iexact HO

/-! ## The second exchange -/

/-- What batch `b` takes into the second exchange besides, and what it has after its send. -/
def pre2 (b : Fin 4) : sProp 𝕄 :=
  iprop(crd c (r1Sem b) NO ∗ posn c (r1Sem b) 0 ∗ (∃ f, slabPts c 2 b fullShare f) ∗ (∃ f, slabPts (p2 c) 3 b fullShare f)
    ∗ tok c (s2Sem b) 0 ∗ tok (p2 c) (r2Sem b) 0)
def post2 (b : Fin 4) : sProp 𝕄 :=
  iprop(post1 A c b ∗ posn c (r1Sem b) 1 ∗ slabPts c 1 b fullShare (Co A c) ∗ slabPts c 2 b fullShare.right (Co A c) ∗ crd c (s2Sem b) NO)

theorem step_batch2 (d : Dev nD) (hd : d = p2 c) (b : Fin 4) (l : List Debt)
    (hl : ∀ e ∈ ((p2, .dma (r2Sem b), NO) :: l : List Debt), lvS (.dma (r1Sem b)) < lvS e.2.1) (Kt : PUnit → sProp 𝕄) :
    iprop(records A K ∗ post1 A c b ∗ pre2 c b ∗ owesE c ((p2, .dma (r2Sem b), NO) :: l) ∗ ((post2 A c b ∗ owesE c l) -∗ Kt ⟨⟩))
      ⊢ WP c (waitO (r1Sem b) 0 1 b >>= fun _ => mergeO b >>= fun _ => sendO d 2 3 b (s2Sem b) (r2Sem b)) Kt := by
  unfold pre2 post2 post1
  iintro ⟨#HR, ⟨H0, Hc0⟩, ⟨Hc, Hat, H2, Hd, HtS, HtR⟩, HO, HK⟩
  iapply (step_then (c := c) (BI.Entails.refl _))
  iapply (step_waitO A K c (r1Sem b) (show 8 ≤ 12 + b.val by omega) (amt_O 12 b (by omega) (by omega)) _ hl 0 1 b)
  isplitr; · iexact HR
  isplitl [Hc]; · iexact Hc
  isplitl [HO]; · iexact HO
  isplitl [Hat]; · iexact Hat
  iintro ⟨HO, Hat, H1⟩
  ihave H1 := (Entails.of_eq (pay_r1 A c b 0)) $$ H1
  iapply (step_then (c := c) (BI.Entails.refl _))
  iapply (step_mergeO A c b)
  isplitl [H0]; · iexact H0
  isplitl [H1]; · iexact H1
  isplitl [H2]; · iexact H2
  iintro ⟨H0, H1, H2⟩
  iapply (step_sendO A K c d 2 3 b (s2Sem b) (r2Sem b) (show 4 ≤ 16 + b.val by omega) (show 4 ≤ 20 + b.val by omega)
    (amt_O 16 b (by omega) (by omega)) (amt_O 20 b (by omega) (by omega)) p2 hd l (pay_s2 A c b 0) (pay_r2 A d b 0)
    (fun r q => by rw [hd]; show oMn A (p2 (p2 c)) r q = oMn A c r q; rw [p2_p2]))
  isplitr; · iexact HR
  isplitl [H2]; · iexact H2
  isplitl [Hd]; · rw [hd]; iexact Hd
  isplitl [HO]; · iexact HO
  isplitl [HtS]; · iexact HtS
  isplitl [HtR]; · rw [hd]; iexact HtR
  iintro ⟨H2, HcS, HO⟩
  iapply HK
  isplitr [HO]
  · isplitl [H0 Hc0]; · isplitl [H0] <;> iassumption
    isplitl [Hat]; · iexact Hat
    isplitl [H1]; · iexact H1
    isplitl [H2]; · iexact H2
    iexact HcS
  iexact HO

/-! ## The normalisation -/

def post3 (b : Fin 4) : sProp 𝕄 := iprop(post2 A c b ∗ posn c (r2Sem b) 1 ∗ slabPts c 3 b fullShare (Co A c))

/-- The accumulator, the output projection's weights, and the output's first rows. -/
def outs (n : ℕ) : sProp 𝕄 := iprop((∃ f, whole c cc0_scratch5 f) ∗ whole c cc0_stg2_0 (A.wo c) ∗ rows A c n)

theorem step_batch3 (b : Fin 4) (Kt : PUnit → sProp 𝕄) :
    iprop(records A K ∗ post2 A c b ∗ crd c (r2Sem b) NO ∗ posn c (r2Sem b) 0 ∗ outs A c (256 * b.val) ∗ owesE c []
        ∗ ((post3 A c b ∗ outs A c (256 * (b.val + 1)) ∗ owesE c []) -∗ Kt ⟨⟩))
      ⊢ WP c (waitO (r2Sem b) 2 3 b >>= fun _ => finish (invA A c) b) Kt := by
  unfold post3 post2 outs
  iintro ⟨#HR, ⟨Hp, Ha1, H1, H2, HcS⟩, Hc, Hat, ⟨Ha, Hw, Ho⟩, HO, HK⟩
  iapply (step_then (c := c) (BI.Entails.refl _))
  iapply (step_waitO A K c (r2Sem b) (show 8 ≤ 20 + b.val by omega) (amt_O 20 b (by omega) (by omega)) [] (fun e he => absurd he List.not_mem_nil) 2 3 b)
  isplitr; · iexact HR
  isplitl [Hc]; · iexact Hc
  isplitl [HO]; · iexact HO
  isplitl [Hat]; · iexact Hat
  iintro ⟨HO, Hat, H3⟩
  ihave H3 := (Entails.of_eq (pay_r2 A c b 0)) $$ H3
  iapply (step_finish A c b)
  isplitl [H2]; · iexact H2
  isplitl [H3]; · iexact H3
  isplitl [Ha]; · iexact Ha
  isplitl [Hw]; · iexact Hw
  isplitl [Ho]; · iexact Ho
  iintro ⟨H2, H3, Ha, Hw, Ho⟩
  iapply HK
  isplitl [Hp Ha1 H1 H2 HcS Hat H3]
  · isplitl [Hp Ha1 H1 H2 HcS]
    · isplitl [Hp]; · iexact Hp
      isplitl [Ha1]; · iexact Ha1
      isplitl [H1]; · iexact H1
      isplitl [H2]; · iexact H2
      iexact HcS
    isplitl [Hat]; · iexact Hat
    iexact H3
  isplitl [Ha Hw Ho]
  · isplitl [Ha]; · iexact Ha
    isplitl [Hw]; · iexact Hw
    iexact Ho
  iexact HO

/-! ## The last waits -/

/-- A departure waited for: the half it returns joins the half kept. -/
theorem step_drainO (sm : DmaSem sig) (h8 : 8 ≤ sm.val) (aS : amt sm.val = NO) (s b t t' : Fin 4) (pS : payD A c sm.val 0 = slabPts c s b fullShare.left (Co A c))
    (Kt : PUnit → sProp 𝕄) :
    iprop(records A K ∗ crd c sm NO ∗ posn c sm 0 ∗ slabPts c s b fullShare.right (Co A c) ∗ owesE c []
        ∗ ((posn c sm 1 ∗ slabPts c s b fullShare (Co A c) ∗ owesE c []) -∗ Kt ⟨⟩))
      ⊢ WP c (waitO sm t t' b) Kt := by
  iintro ⟨#HR, Hc, Hat, Hr, HO, HK⟩
  iapply (step_waitO A K c sm h8 aS [] (fun e he => absurd he List.not_mem_nil) t t' b)
  isplitr; · iexact HR
  isplitl [Hc]; · iexact Hc
  isplitl [HO]; · iexact HO
  isplitl [Hat]; · iexact Hat
  iintro ⟨HO, Hat, Hl⟩
  ihave Hl := (Entails.of_eq pS) $$ Hl
  iapply HK
  isplitl [Hat]; · iexact Hat
  isplitl [Hl Hr]
  · unfold slabPts
    iapply ((pointsTo_share (PosShare.mem_left_op_right fullShare)).2)
    isplitl [Hl] <;> iassumption
  iexact HO

theorem step_drainL (sm : DmaSem sig) (h8 : 8 ≤ sm.val) (aS : amt sm.val = NL) (s t t' : Fin 4) (pS : payD A c sm.val 0 = lPts c s fullShare.left (Cl A c))
    (Kt : PUnit → sProp 𝕄) :
    iprop(records A K ∗ crd c sm NL ∗ posn c sm 0 ∗ lPts c s fullShare.right (Cl A c) ∗ owesE c []
        ∗ ((posn c sm 1 ∗ lPts c s fullShare (Cl A c) ∗ owesE c []) -∗ Kt ⟨⟩))
      ⊢ WP c (waitL sm t t') Kt := by
  iintro ⟨#HR, Hc, Hat, Hr, HO, HK⟩
  iapply (step_waitL A K c sm h8 aS [] (fun e he => absurd he List.not_mem_nil) t t')
  isplitr; · iexact HR
  isplitl [Hc]; · iexact Hc
  isplitl [HO]; · iexact HO
  isplitl [Hat]; · iexact Hat
  iintro ⟨HO, Hat, Hl⟩
  ihave Hl := (Entails.of_eq pS) $$ Hl
  iapply HK
  isplitl [Hat]; · iexact Hat
  isplitl [Hl Hr]
  · unfold lPts
    iapply ((pointsTo_share (PosShare.mem_left_op_right fullShare)).2)
    isplitl [Hl] <;> iassumption
  iexact HO

end Cert.KernelIdealProof

end
-- ==== Proof.Body.lean ====
/-
# The body

The phases composed in program order, and the 25 cells of a device closed behind them.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Option (Fin 24) → ℕ) (c : Dev nD)

theorem step_then2 {α β γ : Type} {p : P F α} {q : P F β} {k : β → P F γ} {Kt : γ → sProp 𝕄} {R : sProp 𝕄}
    (h : R ⊢ WP c (p >>= fun _ => q) fun a => WP c (k a) Kt) : R ⊢ WP c (p >>= fun _ => q >>= k) Kt :=
  step_then ((h.trans (Entails.of_eq (wp_bind _ _ _ p _ _))).trans
    (Entails.of_eq (congrArg (wp _ _ _ p) (funext fun _ => (wp_bind _ _ _ q k Kt).symm))))
theorem step_then3 {α β γ δ : Type} {p : P F α} {q : P F β} {r : P F γ} {k : γ → P F δ} {Kt : δ → sProp 𝕄} {R : sProp 𝕄}
    (h : R ⊢ WP c (p >>= fun _ => q >>= fun _ => r) fun a => WP c (k a) Kt) : R ⊢ WP c (p >>= fun _ => q >>= fun _ => r >>= k) Kt :=
  step_then ((h.trans (Entails.of_eq (wp_bind _ _ _ p _ _))).trans
    (Entails.of_eq (congrArg (wp _ _ _ p) (funext fun _ => (wp_bind _ _ _ q _ _).trans
      ((congrArg (wp _ _ _ q) (funext fun _ => (wp_bind _ _ _ r k Kt).symm)).trans (wp_bind _ _ _ q _ Kt).symm)))))

/-- One thing per batch. -/
def four (Φ : Fin 4 → sProp 𝕄) : sProp 𝕄 := iprop(Φ 0 ∗ Φ 1 ∗ Φ 2 ∗ Φ 3)

/-- The tokens of a pair of loads. -/
def ldtk (s : Fin 2) (r : ℕ) : sProp 𝕄 := iprop(tok c (kSem s) r ∗ tok c (vSem s) r)

theorem ready_intro (s : Fin 2) (r : ℕ) : iprop(ldtk c s r ∗ rchLd c s r) ⊢ (ready c s r : sProp 𝕄) := by
  unfold ldtk rchLd ready
  iintro ⟨⟨Ha, Hb⟩, Hc, Hd⟩
  isplitl [Ha]; · iexact Ha
  isplitl [Hb]; · iexact Hb
  isplitl [Hc] <;> iassumption
theorem rchLd_zero (s : Fin 2) : records A K ⊢ (rchLd c s 0 : sProp 𝕄) := by
  unfold rchLd
  iintro #HR
  isplitr
  · iapply (rch_d A K c (kSem s) (Nat.le_add_right _ _)); iexact HR
  · iapply (rch_d A K c (vSem s) (show 4 ≤ 6 + s.val by omega)); iexact HR

/-! ## The phases in order -/

theorem step_first (Kt : PUnit → sProp 𝕄) :
    iprop(records A K ∗ flying c 0 ∗ posLd c 0 0 ∗ posLd c 1 0 ∗ slotAny c 1 ∗ (srcs A c 1 ∗ srcs A c 2 ∗ srcs A c 3)
        ∗ (ldtk c 1 0 ∗ ldtk c 0 1 ∗ ldtk c 1 1) ∗ whole c cc0_scratch0 (qA A c) ∗ dens A c 0 ∗ four (pre1 c) ∗ owesE c (debts.drop 2)
        ∗ ((posLd c 0 2 ∗ posLd c 1 2 ∗ slotAt A c 0 2 ∗ slotAt A c 1 3 ∗ four (srcs A c) ∗ whole c cc0_scratch0 (qA A c)
            ∗ lPts c 0 fullShare (Cl A c) ∗ four (post1 A c) ∗ owesE c (debts.drop 6)) -∗ Kt ⟨⟩))
      ⊢ WP c (first c) Kt := by
  unfold first four
  iintro ⟨#HR, Hf, Hp0, Hp1, Hs1, ⟨Hk1, Hk2, Hk3⟩, ⟨Ht10, Ht01, Ht11⟩, Hq, Hl, ⟨Hb0, Hb1, Hb2, Hb3⟩, HO, HK⟩
  -- batch 0
  iapply (step_then (c := c) (BI.Entails.refl _))
  iapply (step_waitLoad A K c 0 0 0 rfl (by decide) (debts.drop 2) (by decide))
  isplitr; · iexact HR
  isplitl [Hf]; · iexact Hf
  isplitl [HO]; · iexact HO
  isplitl [Hp0]; · iexact Hp0
  iintro ⟨HO, Hp0, Hr0, Hs0, Hk0⟩
  iapply (step_then (c := c) (BI.Entails.refl _))
  iapply (step_startLoad A K c 1 1 0 rfl (by decide))
  isplitr; · iexact HR
  isplitl [Hs1]; · iexact Hs1
  isplitl [Hk1]; · iexact Hk1
  isplitl [Ht10]
  · iapply (ready_intro c 1 0)
    isplitl [Ht10]; · iexact Ht10
    iapply (rchLd_zero A K c 1); iexact HR
  iintro Hf
  iapply (step_then2 (c := c) (BI.Entails.refl _))
  iapply (step_batch1 A K c _ (dev3_eq c) 0 0 (debts.drop 3))
  isplitr; · iexact HR
  isplitl [Hq]; · iexact Hq
  isplitl [Hs0]; · iexact Hs0
  isplitl [Hl]; · iexact Hl
  isplitl [Hb0]; · iexact Hb0
  isplitl [HO]; · iexact HO
  iintro ⟨Hq, Hs0, Hl, Hb0, HO⟩
  -- batch 1
  iapply (step_then (c := c) (BI.Entails.refl _))
  iapply (step_waitLoad A K c 1 1 0 rfl (by decide) (debts.drop 3) (by decide))
  isplitr; · iexact HR
  isplitl [Hf]; · iexact Hf
  isplitl [HO]; · iexact HO
  isplitl [Hp1]; · iexact Hp1
  iintro ⟨HO, Hp1, Hr1, Hs1, Hk1⟩
  iapply (step_then (c := c) (BI.Entails.refl _))
  iapply (step_startLoad A K c 2 0 1 rfl (by decide))
  isplitr; · iexact HR
  isplitl [Hs0]; · iapply (slotAt_any A c 0 0); iexact Hs0
  isplitl [Hk2]; · iexact Hk2
  isplitl [Ht01 Hr0]
  · iapply (ready_intro c 0 1)
    isplitl [Ht01] <;> iassumption
  iintro Hf
  iapply (step_then2 (c := c) (BI.Entails.refl _))
  iapply (step_batch1 A K c _ (dev4_eq c) 1 1 (debts.drop 4))
  isplitr; · iexact HR
  isplitl [Hq]; · iexact Hq
  isplitl [Hs1]; · iexact Hs1
  isplitl [Hl]; · iexact Hl
  isplitl [Hb1]; · iexact Hb1
  isplitl [HO]; · iexact HO
  iintro ⟨Hq, Hs1, Hl, Hb1, HO⟩
  -- batch 2
  iapply (step_then (c := c) (BI.Entails.refl _))
  iapply (step_waitLoad A K c 2 0 1 rfl (by decide) (debts.drop 4) (by decide))
  isplitr; · iexact HR
  isplitl [Hf]; · iexact Hf
  isplitl [HO]; · iexact HO
  isplitl [Hp0]; · iexact Hp0
  iintro ⟨HO, Hp0, -, Hs0, Hk2⟩
  iapply (step_then (c := c) (BI.Entails.refl _))
  iapply (step_startLoad A K c 3 1 1 rfl (by decide))
  isplitr; · iexact HR
  isplitl [Hs1]; · iapply (slotAt_any A c 1 1); iexact Hs1
  isplitl [Hk3]; · iexact Hk3
  isplitl [Ht11 Hr1]
  · iapply (ready_intro c 1 1)
    isplitl [Ht11] <;> iassumption
  iintro Hf
  iapply (step_then2 (c := c) (BI.Entails.refl _))
  iapply (step_batch1 A K c _ (dev5_eq c) 0 2 (debts.drop 5))
  isplitr; · iexact HR
  isplitl [Hq]; · iexact Hq
  isplitl [Hs0]; · iexact Hs0
  isplitl [Hl]; · iexact Hl
  isplitl [Hb2]; · iexact Hb2
  isplitl [HO]; · iexact HO
  iintro ⟨Hq, Hs0, Hl, Hb2, HO⟩
  -- batch 3
  iapply (step_then (c := c) (BI.Entails.refl _))
  iapply (step_waitLoad A K c 3 1 1 rfl (by decide) (debts.drop 5) (by decide))
  isplitr; · iexact HR
  isplitl [Hf]; · iexact Hf
  isplitl [HO]; · iexact HO
  isplitl [Hp1]; · iexact Hp1
  iintro ⟨HO, Hp1, -, Hs1, Hk3⟩
  iapply (step_batch1 A K c _ (dev6_eq c) 1 3 (debts.drop 6))
  isplitr; · iexact HR
  isplitl [Hq]; · iexact Hq
  isplitl [Hs1]; · iexact Hs1
  isplitl [Hl]; · iexact Hl
  isplitl [Hb3]; · iexact Hb3
  isplitl [HO]; · iexact HO
  iintro ⟨Hq, Hs1, Hl, Hb3, HO⟩
  iapply HK
  isplitl [Hp0]; · iexact Hp0
  isplitl [Hp1]; · iexact Hp1
  isplitl [Hs0]; · iexact Hs0
  isplitl [Hs1]; · iexact Hs1
  isplitl [Hk0 Hk1 Hk2 Hk3]
  · isplitl [Hk0]; · iexact Hk0
    isplitl [Hk1]; · iexact Hk1
    isplitl [Hk2] <;> iassumption
  isplitl [Hq]; · iexact Hq
  isplitl [Hl]; · iapply (dens_all A c); iexact Hl
  isplitl [Hb0 Hb1 Hb2 Hb3]
  · isplitl [Hb0]; · iexact Hb0
    isplitl [Hb1]; · iexact Hb1
    isplitl [Hb2] <;> iassumption
  iexact HO

/-- What the denominators take into the exchanges, and what they have after the second send. -/
def preL : sProp 𝕄 :=
  iprop((∃ f, lPts (p1 c) 1 fullShare f) ∗ (∃ f, lPts c 2 fullShare f) ∗ (∃ f, lPts (p2 c) 3 fullShare f)
    ∗ tok c (lsSem 0) 0 ∗ tok (p1 c) (lrSem 0) 0 ∗ tok c (lsSem 1) 0 ∗ tok (p2 c) (lrSem 1) 0
    ∗ crd c (lrSem 0) NL ∗ posn c (lrSem 0) 0)
def postL : sProp 𝕄 :=
  iprop(lPts c 0 fullShare.right (Cl A c) ∗ lPts c 1 fullShare (Cl A c) ∗ lPts c 2 fullShare.right (Cl A c)
    ∗ crd c (lsSem 0) NL ∗ crd c (lsSem 1) NL ∗ posn c (lrSem 0) 1)

theorem step_second (Kt : PUnit → sProp 𝕄) :
    iprop(records A K ∗ lPts c 0 fullShare (Cl A c) ∗ preL c ∗ four (post1 A c) ∗ four (pre2 c) ∗ owesE c (debts.drop 6)
        ∗ ((postL A c ∗ four (post2 A c) ∗ owesE c []) -∗ Kt ⟨⟩))
      ⊢ WP c (second c) Kt := by
  unfold second four preL postL
  iintro ⟨#HR, Hl0, ⟨Hd1, Hl2, Hd3, HtS0, HtR0, HtS1, HtR1, Hc, Hat⟩, ⟨Hp0, Hp1, Hp2, Hp3⟩, ⟨Hq0, Hq1, Hq2, Hq3⟩, HO, HK⟩
  iapply (step_then (c := c) (BI.Entails.refl _))
  iapply (step_sendL A K c _ 0 1 (lsSem 0) (lrSem 0) (by decide) (by decide) (by decide) (by decide) p1 (dev7_eq c) (debts.drop 7) (pay_ls0 A c 0) (pay_lr0 A _ 0)
    (fun r q => by rw [dev7_eq]; show lLn A (p1 (p1 c)) r q = lLn A c r q; rw [p1_p1]))
  isplitr; · iexact HR
  isplitl [Hl0]; · iexact Hl0
  isplitl [Hd1]; · rw [dev7_eq]; iexact Hd1
  isplitl [HO]; · iexact HO
  isplitl [HtS0]; · iexact HtS0
  isplitl [HtR0]; · rw [dev7_eq]; iexact HtR0
  iintro ⟨Hl0, HcS0, HO⟩
  iapply (step_then (c := c) (BI.Entails.refl _))
  iapply (step_waitL A K c (lrSem 0) (by decide) (by decide) (debts.drop 7) (by decide) 0 1)
  isplitr; · iexact HR
  isplitl [Hc]; · iexact Hc
  isplitl [HO]; · iexact HO
  isplitl [Hat]; · iexact Hat
  iintro ⟨HO, Hat, Hl1⟩
  ihave Hl1 := (Entails.of_eq (pay_lr0 A c 0)) $$ Hl1
  iapply (step_then (c := c) (BI.Entails.refl _))
  iapply (step_mergeL A c)
  isplitl [Hl0]; · iexact Hl0
  isplitl [Hl1]; · iexact Hl1
  isplitl [Hl2]; · iexact Hl2
  iintro ⟨Hl0, Hl1, Hl2⟩
  iapply (step_then (c := c) (BI.Entails.refl _))
  iapply (step_sendL A K c _ 2 3 (lsSem 1) (lrSem 1) (by decide) (by decide) (by decide) (by decide) p2 (dev8_eq c) (debts.drop 8) (pay_ls1 A c 0) (pay_lr1 A _ 0)
    (fun r q => by rw [dev8_eq]; show lMn A (p2 (p2 c)) r q = lMn A c r q; rw [p2_p2]))
  isplitr; · iexact HR
  isplitl [Hl2]; · iexact Hl2
  isplitl [Hd3]; · rw [dev8_eq]; iexact Hd3
  isplitl [HO]; · iexact HO
  isplitl [HtS1]; · iexact HtS1
  isplitl [HtR1]; · rw [dev8_eq]; iexact HtR1
  iintro ⟨Hl2, HcS1, HO⟩
  iapply (step_then3 (c := c) (BI.Entails.refl _))
  iapply (step_batch2 A K c _ (dev9_eq c) 0 (debts.drop 9) (by decide))
  isplitr; · iexact HR
  isplitl [Hp0]; · iexact Hp0
  isplitl [Hq0]; · iexact Hq0
  isplitl [HO]; · iexact HO
  iintro ⟨Hp0, HO⟩
  iapply (step_then3 (c := c) (BI.Entails.refl _))
  iapply (step_batch2 A K c _ (dev10_eq c) 1 (debts.drop 10) (by decide))
  isplitr; · iexact HR
  isplitl [Hp1]; · iexact Hp1
  isplitl [Hq1]; · iexact Hq1
  isplitl [HO]; · iexact HO
  iintro ⟨Hp1, HO⟩
  iapply (step_then3 (c := c) (BI.Entails.refl _))
  iapply (step_batch2 A K c _ (dev11_eq c) 2 (debts.drop 11) (by decide))
  isplitr; · iexact HR
  isplitl [Hp2]; · iexact Hp2
  isplitl [Hq2]; · iexact Hq2
  isplitl [HO]; · iexact HO
  iintro ⟨Hp2, HO⟩
  iapply (step_batch2 A K c _ (dev12_eq c) 3 (debts.drop 12) (by decide))
  isplitr; · iexact HR
  isplitl [Hp3]; · iexact Hp3
  isplitl [Hq3]; · iexact Hq3
  isplitl [HO]; · iexact HO
  iintro ⟨Hp3, HO⟩
  iapply HK
  isplitl [Hl0 Hl1 Hl2 HcS0 HcS1 Hat]
  · isplitl [Hl0]; · iexact Hl0
    isplitl [Hl1]; · iexact Hl1
    isplitl [Hl2]; · iexact Hl2
    isplitl [HcS0]; · iexact HcS0
    isplitl [HcS1]; · iexact HcS1
    iexact Hat
  isplitl [Hp0 Hp1 Hp2 Hp3]
  · isplitl [Hp0]; · iexact Hp0
    isplitl [Hp1]; · iexact Hp1
    isplitl [Hp2] <;> iassumption
  iexact HO

def crd3 (b : Fin 4) : sProp 𝕄 := iprop(crd c (r2Sem b) NO ∗ posn c (r2Sem b) 0)

theorem step_third (Kt : PUnit → sProp 𝕄) :
    iprop(records A K ∗ (lPts c 2 fullShare.right (Cl A c) ∗ crd c (lrSem 1) NL ∗ posn c (lrSem 1) 0) ∗ four (post2 A c) ∗ four (crd3 c) ∗ outs A c 0 ∗ owesE c []
        ∗ (((lPts c 2 fullShare.right (Cl A c) ∗ lPts c 3 fullShare (Cl A c) ∗ posn c (lrSem 1) 1) ∗ four (post3 A c) ∗ outs A c (256 * 4) ∗ owesE c []) -∗ Kt ⟨⟩))
      ⊢ WP c third Kt := by
  unfold third four crd3
  iintro ⟨#HR, ⟨Hl2, Hc, Hat⟩, ⟨Hp0, Hp1, Hp2, Hp3⟩, ⟨⟨Hc0, Ha0⟩, ⟨Hc1, Ha1⟩, ⟨Hc2, Ha2⟩, ⟨Hc3, Ha3⟩⟩, Hu, HO, HK⟩
  iapply (step_then (c := c) (BI.Entails.refl _))
  iapply (step_waitL A K c (lrSem 1) (by decide) (by decide) [] (fun e he => absurd he List.not_mem_nil) 2 3)
  isplitr; · iexact HR
  isplitl [Hc]; · iexact Hc
  isplitl [HO]; · iexact HO
  isplitl [Hat]; · iexact Hat
  iintro ⟨HO, Hat, Hl3⟩
  ihave Hl3 := (Entails.of_eq (pay_lr1 A c 0)) $$ Hl3
  iapply (step_then (c := c) (BI.Entails.refl _))
  iapply (step_recip A c)
  isplitl [Hl2]; · iexact Hl2
  isplitl [Hl3]; · iexact Hl3
  iintro ⟨Hl2, Hl3⟩
  iapply (step_then2 (c := c) (BI.Entails.refl _))
  iapply (step_batch3 A K c 0)
  isplitr; · iexact HR
  isplitl [Hp0]; · iexact Hp0
  isplitl [Hc0]; · iexact Hc0
  isplitl [Ha0]; · iexact Ha0
  isplitl [Hu]; · iexact Hu
  isplitl [HO]; · iexact HO
  iintro ⟨Hp0, Hu, HO⟩
  iapply (step_then2 (c := c) (BI.Entails.refl _))
  iapply (step_batch3 A K c 1)
  isplitr; · iexact HR
  isplitl [Hp1]; · iexact Hp1
  isplitl [Hc1]; · iexact Hc1
  isplitl [Ha1]; · iexact Ha1
  isplitl [Hu]; · iexact Hu
  isplitl [HO]; · iexact HO
  iintro ⟨Hp1, Hu, HO⟩
  iapply (step_then2 (c := c) (BI.Entails.refl _))
  iapply (step_batch3 A K c 2)
  isplitr; · iexact HR
  isplitl [Hp2]; · iexact Hp2
  isplitl [Hc2]; · iexact Hc2
  isplitl [Ha2]; · iexact Ha2
  isplitl [Hu]; · iexact Hu
  isplitl [HO]; · iexact HO
  iintro ⟨Hp2, Hu, HO⟩
  iapply (step_batch3 A K c 3)
  isplitr; · iexact HR
  isplitl [Hp3]; · iexact Hp3
  isplitl [Hc3]; · iexact Hc3
  isplitl [Ha3]; · iexact Ha3
  isplitl [Hu]; · iexact Hu
  isplitl [HO]; · iexact HO
  iintro ⟨Hp3, Hu, HO⟩
  iapply HK
  isplitl [Hl2 Hl3 Hat]
  · isplitl [Hl2]; · iexact Hl2
    isplitl [Hl3] <;> iassumption
  isplitl [Hp0 Hp1 Hp2 Hp3]
  · isplitl [Hp0]; · iexact Hp0
    isplitl [Hp1]; · iexact Hp1
    isplitl [Hp2] <;> iassumption
  isplitl [Hu]; · iexact Hu
  iexact HO

/-- What a batch's departures need, and what they leave. -/
def out1 (b : Fin 4) : sProp 𝕄 := iprop(crd c (s1Sem b) NO ∗ posn c (s1Sem b) 0 ∗ slabPts c 0 b fullShare.right (Co A c))
def out2 (b : Fin 4) : sProp 𝕄 := iprop(crd c (s2Sem b) NO ∗ posn c (s2Sem b) 0 ∗ slabPts c 2 b fullShare.right (Co A c))
def in1 (b : Fin 4) : sProp 𝕄 := iprop(posn c (s1Sem b) 1 ∗ slabPts c 0 b fullShare (Co A c))
def in2 (b : Fin 4) : sProp 𝕄 := iprop(posn c (s2Sem b) 1 ∗ slabPts c 2 b fullShare (Co A c))

theorem drain1 (b : Fin 4) (Kt : PUnit → sProp 𝕄) :
    iprop(records A K ∗ out1 A c b ∗ owesE c [] ∗ ((in1 A c b ∗ owesE c []) -∗ Kt ⟨⟩)) ⊢ WP c (waitO (s1Sem b) 1 0 b) Kt := by
  unfold out1 in1
  iintro ⟨#HR, ⟨Hc, Hat, Hr⟩, HO, HK⟩
  iapply (step_drainO A K c (s1Sem b) (show 8 ≤ 8 + b.val by omega) (amt_O 8 b (by omega) (by omega)) 0 b 1 0 (pay_s1 A c b 0))
  isplitr; · iexact HR
  isplitl [Hc]; · iexact Hc
  isplitl [Hat]; · iexact Hat
  isplitl [Hr]; · iexact Hr
  isplitl [HO]; · iexact HO
  iintro ⟨Hat, Hs, HO⟩
  iapply HK
  isplitl [Hat Hs]; · isplitl [Hat] <;> iassumption
  iexact HO
theorem drain2 (b : Fin 4) (Kt : PUnit → sProp 𝕄) :
    iprop(records A K ∗ out2 A c b ∗ owesE c [] ∗ ((in2 A c b ∗ owesE c []) -∗ Kt ⟨⟩)) ⊢ WP c (waitO (s2Sem b) 3 2 b) Kt := by
  unfold out2 in2
  iintro ⟨#HR, ⟨Hc, Hat, Hr⟩, HO, HK⟩
  iapply (step_drainO A K c (s2Sem b) (show 8 ≤ 16 + b.val by omega) (amt_O 16 b (by omega) (by omega)) 2 b 3 2 (pay_s2 A c b 0))
  isplitr; · iexact HR
  isplitl [Hc]; · iexact Hc
  isplitl [Hat]; · iexact Hat
  isplitl [Hr]; · iexact Hr
  isplitl [HO]; · iexact HO
  iintro ⟨Hat, Hs, HO⟩
  iapply HK
  isplitl [Hat Hs]; · isplitl [Hat] <;> iassumption
  iexact HO

def outL : sProp 𝕄 :=
  iprop((crd c (lsSem 0) NL ∗ posn c (lsSem 0) 0 ∗ lPts c 0 fullShare.right (Cl A c)) ∗ (crd c (lsSem 1) NL ∗ posn c (lsSem 1) 0 ∗ lPts c 2 fullShare.right (Cl A c)))
def inL : sProp 𝕄 :=
  iprop((posn c (lsSem 0) 1 ∗ lPts c 0 fullShare (Cl A c)) ∗ (posn c (lsSem 1) 1 ∗ lPts c 2 fullShare (Cl A c)))

theorem step_drain (Kt : PUnit → sProp 𝕄) :
    iprop(records A K ∗ four (out1 A c) ∗ outL A c ∗ four (out2 A c) ∗ owesE c []
        ∗ ((four (in1 A c) ∗ inL A c ∗ four (in2 A c) ∗ owesE c []) -∗ Kt ⟨⟩))
      ⊢ WP c drain Kt := by
  unfold drain four outL inL
  iintro ⟨#HR, ⟨Hp0, Hp1, Hp2, Hp3⟩, ⟨⟨Hc0, Ha0, Hl0⟩, ⟨Hc1, Ha1, Hl1⟩⟩, ⟨Hq0, Hq1, Hq2, Hq3⟩, HO, HK⟩
  iapply (step_then (c := c) (BI.Entails.refl _))
  iapply (drain1 A K c 0); isplitr; · iexact HR
  isplitl [Hp0]; · iexact Hp0
  isplitl [HO]; · iexact HO
  iintro ⟨Hp0, HO⟩
  iapply (step_then (c := c) (BI.Entails.refl _))
  iapply (drain1 A K c 1); isplitr; · iexact HR
  isplitl [Hp1]; · iexact Hp1
  isplitl [HO]; · iexact HO
  iintro ⟨Hp1, HO⟩
  iapply (step_then (c := c) (BI.Entails.refl _))
  iapply (drain1 A K c 2); isplitr; · iexact HR
  isplitl [Hp2]; · iexact Hp2
  isplitl [HO]; · iexact HO
  iintro ⟨Hp2, HO⟩
  iapply (step_then (c := c) (BI.Entails.refl _))
  iapply (drain1 A K c 3); isplitr; · iexact HR
  isplitl [Hp3]; · iexact Hp3
  isplitl [HO]; · iexact HO
  iintro ⟨Hp3, HO⟩
  iapply (step_then (c := c) (BI.Entails.refl _))
  iapply (step_drainL A K c (lsSem 0) (by decide) (by decide) 0 1 0 (pay_ls0 A c 0)); isplitr; · iexact HR
  isplitl [Hc0]; · iexact Hc0
  isplitl [Ha0]; · iexact Ha0
  isplitl [Hl0]; · iexact Hl0
  isplitl [HO]; · iexact HO
  iintro ⟨Ha0, Hl0, HO⟩
  iapply (step_then (c := c) (BI.Entails.refl _))
  iapply (step_drainL A K c (lsSem 1) (by decide) (by decide) 2 3 2 (pay_ls1 A c 0)); isplitr; · iexact HR
  isplitl [Hc1]; · iexact Hc1
  isplitl [Ha1]; · iexact Ha1
  isplitl [Hl1]; · iexact Hl1
  isplitl [HO]; · iexact HO
  iintro ⟨Ha1, Hl1, HO⟩
  iapply (step_then (c := c) (BI.Entails.refl _))
  iapply (drain2 A K c 0); isplitr; · iexact HR
  isplitl [Hq0]; · iexact Hq0
  isplitl [HO]; · iexact HO
  iintro ⟨Hq0, HO⟩
  iapply (step_then (c := c) (BI.Entails.refl _))
  iapply (drain2 A K c 1); isplitr; · iexact HR
  isplitl [Hq1]; · iexact Hq1
  isplitl [HO]; · iexact HO
  iintro ⟨Hq1, HO⟩
  iapply (step_then (c := c) (BI.Entails.refl _))
  iapply (drain2 A K c 2); isplitr; · iexact HR
  isplitl [Hq2]; · iexact Hq2
  isplitl [HO]; · iexact HO
  iintro ⟨Hq2, HO⟩
  iapply (drain2 A K c 3); isplitr; · iexact HR
  isplitl [Hq3]; · iexact Hq3
  isplitl [HO]; · iexact HO
  iintro ⟨Hq3, HO⟩
  iapply HK
  isplitl [Hp0 Hp1 Hp2 Hp3]
  · isplitl [Hp0]; · iexact Hp0
    isplitl [Hp1]; · iexact Hp1
    isplitl [Hp2] <;> iassumption
  isplitl [Ha0 Hl0 Ha1 Hl1]
  · isplitl [Ha0 Hl0]
    · isplitl [Ha0] <;> iassumption
    · isplitl [Ha1] <;> iassumption
  isplitl [Hq0 Hq1 Hq2 Hq3]
  · isplitl [Hq0]; · iexact Hq0
    isplitl [Hq1]; · iexact Hq1
    isplitl [Hq2] <;> iassumption
  iexact HO

end Cert.KernelIdealProof

end
-- ==== Proof.Cover.lean ====
/-
# The buffers in pieces

A buffer owned whole, as its slots, slabs and batches.
-/
module

public import proofs.«01_k».proof.Proof.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (c : Dev nD)

/-- A buffer owned whole is its pieces, when every element is in exactly the piece a class function names. -/
theorem pointsTo_classes {T : Type} [Fintype T] [DecidableEq T] {ℓ : Loc nD τ sig} (S : T → Finset (Idx ℓ)) (κ : Idx ℓ → T) (h : ∀ t i, i ∈ S t ↔ κ i = t)
    (q : PosShare TreeShare) (f : Buf (Elt F) ℓ) : (ℓ ↦{q} f : sProp 𝕄) = bigSep Finset.univ fun t => ℓ ↦[S t]{q} f := by
  rw [← pointsTo_biUnion Finset.univ S fun t _ t' _ ht => Finset.disjoint_left.mpr fun i hi hi' => ht (((h t i).mp hi).symm.trans ((h t' i).mp hi'))]
  congr 1
  exact (Finset.eq_univ_of_forall fun i => Finset.mem_biUnion.mpr ⟨κ i, Finset.mem_univ _, (h _ i).mpr rfl⟩).symm

theorem bigSep_four (Φ : Fin 4 → sProp 𝕄) : bigSep Finset.univ Φ = four Φ := bigSep_univ_eq_bigSepL [0, 1, 2, 3] (by decide) (by decide) Φ
theorem bigSep_two (Φ : Fin 2 → sProp 𝕄) : bigSep Finset.univ Φ = iprop(Φ 0 ∗ Φ 1) := bigSep_univ_eq_bigSepL [0, 1] (by decide) (by decide) Φ

theorem whole_co (f : (cc0_scratch3 : Ref sig .tc).ty.Contents (Elt F)) :
    whole c cc0_scratch3 f = four fun s => four fun b => slabPts c s b fullShare f := by
  unfold whole
  rw [pointsTo_classes (T := Fin 4 × Fin 4) (ℓ := (c : Thread nD τ).loc cc0_scratch3) (fun t => (slab t.1 t.2).view.set)
    (fun i : S4x1024x1024.Idx => (i 0, rb (i 1))) (fun t i => (slab_mem t.1 t.2 i).trans ?_), bigSep_univ_prod, bigSep_four]
  · simp only [bigSep_four]; rfl
  · have h1 : ((i : S4x1024x1024.Idx) 1 : ℕ) < 1024 := (i 1).isLt
    constructor
    · rintro ⟨h0, h2, h3⟩
      exact Prod.ext (Fin.ext h0) (Fin.ext (by show (i 1 : ℕ) / 256 % 4 = t.2.val; omega))
    · rintro rfl
      refine ⟨rfl, ?_, ?_⟩
      · show 256 * ((i 1 : ℕ) / 256 % 4) ≤ (i 1 : ℕ); omega
      · show (i 1 : ℕ) < 256 * ((i 1 : ℕ) / 256 % 4) + 256; omega

theorem whole_cl (f : (cc0_scratch4 : Ref sig .tc).ty.Contents (Elt F)) : whole c cc0_scratch4 f = four fun s => lPts c s fullShare f := by
  unfold whole
  rw [pointsTo_classes (T := Fin 4) (ℓ := (c : Thread nD τ).loc cc0_scratch4) (fun t => (lslot t).view.set)
    (fun i : S4x256x128.Idx => i 0) (fun t i => (lslot_mem t i).trans ⟨fun h => Fin.ext h, fun h => h ▸ rfl⟩), bigSep_four]
  rfl
theorem whole_kb (f : (cc0_scratch1 : Ref sig .tc).ty.Contents (Elt F)) : whole c cc0_scratch1 f = iprop(kPts c 0 f ∗ kPts c 1 f) := by
  unfold whole
  rw [pointsTo_classes (T := Fin 2) (ℓ := (c : Thread nD τ).loc cc0_scratch1) (fun t => (kDst t).view.set)
    (fun i : S2x1024x1024.Idx => i 0) (fun t i => (kDst_mem t i).trans ⟨fun h => Fin.ext h, fun h => h ▸ rfl⟩), bigSep_two]
  rfl
theorem whole_vb (f : (cc0_scratch2 : Ref sig .tc).ty.Contents (Elt F)) : whole c cc0_scratch2 f = iprop(vPts c 0 f ∗ vPts c 1 f) := by
  unfold whole
  rw [pointsTo_classes (T := Fin 2) (ℓ := (c : Thread nD τ).loc cc0_scratch2) (fun t => (vDst t).view.set)
    (fun i : S2x1024x1024.Idx => i 0) (fun t i => (vDst_mem t i).trans ⟨fun h => Fin.ext h, fun h => h ▸ rfl⟩), bigSep_two]
  rfl

theorem batch_mem (b : Fin 4) (i : S4x1024x1024.Idx) : i ∈ (kSrc b).view.set ↔ i 0 = b := by
  rw [show ((kSrc b).view.set : Finset S4x1024x1024.Idx) = (Rect.unit (s := S4x1024x1024) ![b.val, 0, 0] S1x1024x1024.size (inbSlot4 b)).set from
    (View.set_reshape _ _).trans (View.set_slice_whole _ _), Rect.mem_set_unit, Fin.forall_fin_succ, Fin.forall_fin_two]
  have h1 := (i 1).isLt
  have h2 := (i 2).isLt
  change (i 1 : ℕ) < 1024 at h1
  change (i 2 : ℕ) < 1024 at h2
  have : i 0 = b ↔ (i 0 : ℕ) = b.val := ⟨fun h => congrArg _ h, fun h => Fin.ext h⟩
  rw [this]
  show (b.val ≤ i 0 ∧ (i 0 : ℕ) < b.val + 1) ∧ (0 ≤ (i 1 : ℕ) ∧ (i 1 : ℕ) < 0 + 1024) ∧ (0 ≤ (i 2 : ℕ) ∧ (i 2 : ℕ) < 0 + 1024) ↔ _
  omega
theorem batch_mem_v (b : Fin 4) (i : S4x1024x1024.Idx) : i ∈ (vSrc b).view.set ↔ i 0 = b := by
  rw [show ((vSrc b).view.set : Finset S4x1024x1024.Idx) = (kSrc b).view.set from
    ((View.set_reshape _ _).trans (View.set_slice_whole _ _)).trans ((View.set_reshape _ _).trans (View.set_slice_whole _ _)).symm]
  exact batch_mem b i

theorem whole_srcs : iprop(whole c main_arg3 (A.k c) ∗ whole c main_arg4 (A.v c)) = four (srcs A c) := by
  unfold whole
  rw [pointsTo_classes (T := Fin 4) (ℓ := (c : Thread nD τ).loc main_arg3) (fun t => (kSrc t).view.set) (fun i : S4x1024x1024.Idx => i 0) (fun t i => batch_mem t i),
    pointsTo_classes (T := Fin 4) (ℓ := (c : Thread nD τ).loc main_arg4) (fun t => (vSrc t).view.set) (fun i : S4x1024x1024.Idx => i 0) (fun t i => batch_mem_v t i),
    ← bigSep_sep', bigSep_four]
  rfl

/-- The two slots from two whole buffers holding anything, and back. -/
theorem slots_split : iprop((∃ f, whole c cc0_scratch1 f) ∗ ∃ f, whole c cc0_scratch2 f) ⊢ (iprop(slotAny c 0 ∗ slotAny c 1) : sProp 𝕄) := by
  unfold slotAny
  iintro ⟨⟨%f, Hk⟩, %g, Hv⟩
  ihave Hk := (Entails.of_eq (whole_kb c f)) $$ Hk
  ihave Hv := (Entails.of_eq (whole_vb c g)) $$ Hv
  icases Hk with ⟨Hk0, Hk1⟩
  icases Hv with ⟨Hv0, Hv1⟩
  isplitl [Hk0 Hv0]
  · isplitl [Hk0]; · iexists f; iexact Hk0
    iexists g; iexact Hv0
  · isplitl [Hk1]; · iexists f; iexact Hk1
    iexists g; iexact Hv1

/-- The contents of a two-slot buffer holding `f` in slot 0 and `g` in slot 1. -/
def two {e : EltTy} (f g : S2x1024x1024.Idx → Elt F e) : S2x1024x1024.Idx → Elt F e := fun i => if (i 0 : ℕ) = 0 then f i else g i

theorem two_zero {e : EltTy} (f g : S2x1024x1024.Idx → Elt F e) (i : S2x1024x1024.Idx) (h : (i 0 : ℕ) = 0) : two f g i = f i := if_pos h
theorem two_one {e : EltTy} (f g : S2x1024x1024.Idx → Elt F e) (i : S2x1024x1024.Idx) (h : (i 0 : ℕ) = 1) : two f g i = g i :=
  if_neg fun h' => by omega

theorem slots_join (b b' : Fin 4) : iprop(slotAt A c 0 b ∗ slotAt A c 1 b') ⊢ (iprop((∃ f, whole c cc0_scratch1 f) ∗ ∃ f, whole c cc0_scratch2 f) : sProp 𝕄) := by
  have ek0 : kPts c 0 (kSlot A c b) = kPts c 0 (two (kSlot A c b) (kSlot A c b')) := by
    unfold kPts; exact pointsTo_congr fun i hi => (two_zero _ _ i ((kDst_mem 0 i).mp hi)).symm
  have ek1 : kPts c 1 (kSlot A c b') = kPts c 1 (two (kSlot A c b) (kSlot A c b')) := by
    unfold kPts; exact pointsTo_congr fun i hi => (two_one _ _ i ((kDst_mem 1 i).mp hi)).symm
  have ev0 : vPts c 0 (vSlot A c b) = vPts c 0 (two (vSlot A c b) (vSlot A c b')) := by
    unfold vPts; exact pointsTo_congr fun i hi => (two_zero _ _ i ((vDst_mem 0 i).mp hi)).symm
  have ev1 : vPts c 1 (vSlot A c b') = vPts c 1 (two (vSlot A c b) (vSlot A c b')) := by
    unfold vPts; exact pointsTo_congr fun i hi => (two_one _ _ i ((vDst_mem 1 i).mp hi)).symm
  unfold slotAt
  rw [ek0, ek1, ev0, ev1]
  iintro ⟨⟨Hk0, Hv0⟩, Hk1, Hv1⟩
  isplitl [Hk0 Hk1]
  · iexists (two (kSlot A c b) (kSlot A c b'))
    iapply (Entails.of_eq (whole_kb c _).symm)
    isplitl [Hk0] <;> iassumption
  · iexists (two (vSlot A c b) (vSlot A c b'))
    iapply (Entails.of_eq (whole_vb c _).symm)
    isplitl [Hv0] <;> iassumption

end Cert.KernelIdealProof

end
-- ==== Proof.Program.lean ====
/-
# The printed body is the sequence of steps
-/
module

public import proofs.«01_k».proof.Proof.Shapes
public import Idealize.ShloMosaic.Lib.Pipeline.Regions

@[expose] public section

noncomputable section

namespace Cert.KernelIdealProof

open Cert.KernelIdeal Cert.KernelIdeal.Gen
open Idealize.ShloMosaic Idealize.SL.Sem

variable {F : FTy → Type} [FloatOps F]

/-- The printed body on the kernel's buffers. -/
abbrev printed : P F PUnit :=
  cc0__body xM (Memref.isWhole_whole _) wqM (Memref.isWhole_whole _) woM (Memref.isWhole_whole _) kM (Memref.isWhole_whole _) vM (Memref.isWhole_whole _)
    outM (Memref.isWhole_whole _) qM (Memref.isWhole_whole _) kbM (Memref.isWhole_whole _) vbM (Memref.isWhole_whole _) coM (Memref.isWhole_whole _)
    clM (Memref.isWhole_whole _) accM (Memref.isWhole_whole _) cc0_scratch6 cc0_scratch7 cc0_scratch8 cc0_scratch9 cc0_scratch10 cc0_scratch11 cc0_scratch12 cc0_scratch13

set_option maxRecDepth 65536 in
theorem printed_eq : printed (F := F) = body (F := F) := by
  chain_rfl

end Cert.KernelIdealProof

end
-- ==== Proof.Whole.lean ====
/-
# The body from its ghost state and its buffers

What a device starts from and ends with, and the whole body run from the one to the other.
-/
module

public import proofs.«01_k».proof.Proof.Cover
public import proofs.«01_k».proof.Proof.Program

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Option (Fin 24) → ℕ) (c : Dev nD)

/-- The device's positions: the barrier's at round `rb`, the loads' at `rl`, the others' at `r`. -/
def posAll (rb rl r : ℕ) : sProp 𝕄 :=
  iprop(atPos ER (barCell c) rb ∅ 0 ∗ (posLd c 0 rl ∗ posLd c 1 rl)
    ∗ four (fun b => posn c (s1Sem b) r) ∗ four (fun b => posn c (r1Sem b) r) ∗ four (fun b => posn c (s2Sem b) r) ∗ four (fun b => posn c (r2Sem b) r)
    ∗ (posn c (lsSem 0) r ∗ posn c (lsSem 1) r ∗ posn c (lrSem 0) r ∗ posn c (lrSem 1) r))

/-- The tokens of the duties the device pays. -/
def tokAll : sProp 𝕄 :=
  iprop((dutyTok ER (barCell (p1 c)) 0 false ∗ dutyTok ER (barCell (p2 c)) 0 true)
    ∗ (ldtk c 0 0 ∗ ldtk c 1 0 ∗ ldtk c 0 1 ∗ ldtk c 1 1)
    ∗ four (fun b => tok c (s1Sem b) 0) ∗ four (fun b => tok (p1 c) (r1Sem b) 0) ∗ four (fun b => tok c (s2Sem b) 0) ∗ four (fun b => tok (p2 c) (r2Sem b) 0)
    ∗ (tok c (lsSem 0) 0 ∗ tok c (lsSem 1) 0 ∗ tok (p1 c) (lrSem 0) 0 ∗ tok (p2 c) (lrSem 1) 0))

/-- The credit of the units its partners owe it. -/
def crdAll : sProp 𝕄 :=
  iprop(cred (tallyAt (barCell c) () 2) ∗ four (fun b => crd c (r1Sem b) NO) ∗ four (fun b => crd c (r2Sem b) NO) ∗ (crd c (lrSem 0) NL ∗ crd c (lrSem 1) NL))

/-- The scratch buffers, holding anything. -/
def scratch : sProp 𝕄 :=
  iprop((∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f))
/-- The keys and values in the device's memory. -/
def kv : sProp 𝕄 := iprop(whole c main_arg3 (A.k c) ∗ whole c main_arg4 (A.v c))
/-- The operands staged. -/
def staged : sProp 𝕄 := iprop(whole c cc0_stg0_0 (A.x c) ∗ whole c cc0_stg1_0 (A.wq c) ∗ whole c cc0_stg2_0 (A.wo c))

theorem four_sep (Φ Ψ : Fin 4 → sProp 𝕄) : four (fun b => iprop(Φ b ∗ Ψ b)) = iprop(four Φ ∗ four Ψ) := by
  rw [← bigSep_four, ← bigSep_four, ← bigSep_four, bigSep_sep']
theorem four_mono {Φ Ψ : Fin 4 → sProp 𝕄} (h : ∀ b, Φ b ⊢ Ψ b) : four Φ ⊢ four Ψ := by
  rw [← bigSep_four, ← bigSep_four]; exact bigSep_mono fun b _ => h b
theorem four_out (Φ : Fin 4 → sProp 𝕄) : four Φ ⊢ iprop(Φ 0 ∗ Φ 1 ∗ Φ 2 ∗ Φ 3) := BI.Entails.refl _
theorem four_in (Φ : Fin 4 → sProp 𝕄) : iprop(Φ 0 ∗ Φ 1 ∗ Φ 2 ∗ Φ 3) ⊢ four Φ := BI.Entails.refl _
theorem four_any (s : Fin 4) (f) : (four fun b => slabPts (F := F) c s b fullShare f) ⊢ four fun b => iprop(∃ f, slabPts c s b fullShare f) :=
  four_mono fun b => by iintro H; iexists f; iexact H

theorem landing_intro (s : Fin 4) : iprop((four fun b => iprop(∃ f, slabPts c s b fullShare f)) ∗ ∃ f, lPts c s fullShare f) ⊢ (landing c s : sProp 𝕄) := by
  unfold four landing
  iintro ⟨⟨H0, H1, H2, H3⟩, Hl⟩
  isplitl [H0]; · iexact H0
  isplitl [H1]; · iexact H1
  isplitl [H2]; · iexact H2
  isplitl [H3]; · iexact H3
  iexact Hl
theorem landing_elim (s : Fin 4) : (landing c s : sProp 𝕄) ⊢ iprop((four fun b => iprop(∃ f, slabPts c s b fullShare f)) ∗ ∃ f, lPts c s fullShare f) := by
  unfold four landing
  iintro ⟨H0, H1, H2, H3, Hl⟩
  isplitr [Hl]
  · isplitl [H0]; · iexact H0
    isplitl [H1]; · iexact H1
    isplitl [H2]; · iexact H2
    iexact H3
  iexact Hl

theorem pre1_intro : iprop((four fun b => iprop(∃ f, slabPts c 0 b fullShare f)) ∗ (four fun b => iprop(∃ f, slabPts (p1 c) 1 b fullShare f))
    ∗ (four fun b => tok c (s1Sem b) 0) ∗ four fun b => tok (p1 c) (r1Sem b) 0) ⊢ (four (pre1 c) : sProp 𝕄) := by
  rw [← four_sep, ← four_sep, ← four_sep]; exact BI.Entails.refl _
theorem pre2_intro : iprop((four fun b => crd c (r1Sem b) NO) ∗ (four fun b => posn c (r1Sem b) 0) ∗ (four fun b => iprop(∃ f, slabPts c 2 b fullShare f))
    ∗ (four fun b => iprop(∃ f, slabPts (p2 c) 3 b fullShare f)) ∗ (four fun b => tok c (s2Sem b) 0) ∗ four fun b => tok (p2 c) (r2Sem b) 0)
    ⊢ (four (pre2 c) : sProp 𝕄) := by
  rw [← four_sep, ← four_sep, ← four_sep, ← four_sep, ← four_sep]; exact BI.Entails.refl _
theorem crd3_intro : iprop((four fun b => crd c (r2Sem b) NO) ∗ four fun b => posn c (r2Sem b) 0) ⊢ (four (crd3 c) : sProp 𝕄) := by
  rw [← four_sep]; exact BI.Entails.refl _

/-- What is left after the normalisation, sorted for the last waits. -/
theorem post3_elim : iprop(four (post3 A c) ∗ (four fun b => posn c (s1Sem b) 0) ∗ four fun b => posn c (s2Sem b) 0)
    ⊢ iprop(four (out1 A c) ∗ four (out2 A c) ∗ (four fun b => posn c (r1Sem b) 1) ∗ (four fun b => posn c (r2Sem b) 1)
        ∗ (four fun b => slabPts c 1 b fullShare (Co A c)) ∗ four fun b => slabPts c 3 b fullShare (Co A c)) := by
  rw [← four_sep, ← four_sep, ← four_sep, ← four_sep, ← four_sep, ← four_sep, ← four_sep]
  refine four_mono fun b => ?_
  unfold post3 post2 post1 out1 out2
  iintro ⟨⟨⟨⟨H0, Hc0⟩, Hr1, H1, H2, Hc2⟩, Hr2, H3⟩, Hs1, Hs2⟩
  isplitl [Hc0 Hs1 H0]
  · isplitl [Hc0]; · iexact Hc0
    isplitl [Hs1] <;> iassumption
  isplitl [Hc2 Hs2 H2]
  · isplitl [Hc2]; · iexact Hc2
    isplitl [Hs2] <;> iassumption
  isplitl [Hr1]; · iexact Hr1
  isplitl [Hr2]; · iexact Hr2
  isplitl [H1] <;> iassumption
theorem in1_elim : four (in1 A c) ⊢ iprop((four fun b => posn c (s1Sem b) 1) ∗ four fun b => slabPts c 0 b fullShare (Co A c)) := by
  rw [← four_sep]; exact BI.Entails.refl _
theorem in2_elim : four (in2 A c) ⊢ iprop((four fun b => posn c (s2Sem b) 1) ∗ four fun b => slabPts c 2 b fullShare (Co A c)) := by
  rw [← four_sep]; exact BI.Entails.refl _

theorem WP_device (k : Dev nD → P F PUnit) (Kt : PUnit → sProp 𝕄) : WP c (.op .deviceId k) Kt = WP c (k c) Kt := by
  unfold WP; rw [wp_deviceId]

/-- The body: from a device's ghost state and buffers to its cells at their last rounds and the output. -/
theorem body_run (Kt : PUnit → sProp 𝕄) :
    iprop(records A K ∗ owesE c debts ∗ posAll c 0 0 0 ∗ tokAll c ∗ crdAll c ∗ scratch c ∗ kv A c ∗ staged A c ∗ (∃ f, whole c cc0_stg3_0 f)
        ∗ ((owesE c [] ∗ posAll c 1 2 1 ∗ scratch c ∗ kv A c ∗ staged A c ∗ whole c cc0_stg3_0 (outA A c)) -∗ Kt ⟨⟩))
      ⊢ WP c (body (F := F)) Kt := by
  unfold body posAll tokAll crdAll scratch staged kv
  rw [whole_srcs]
  simp only [Prog.lift, Prog.bind_op, Prog.bind_ret]
  iintro ⟨#HR, HO, ⟨HaB, ⟨Hp0, Hp1⟩, HaS1, HaR1, HaS2, HaR2, ⟨HaL0, HaL1, HaM0, HaM1⟩⟩,
    ⟨⟨HtB1, HtB2⟩, ⟨Ht00, Ht10, Ht01, Ht11⟩, HtS1, HtR1, HtS2, HtR2, ⟨HtL0, HtL1, HtM0, HtM1⟩⟩,
    ⟨HcB, HcR1, HcR2, ⟨HcM0, HcM1⟩⟩, ⟨Hq, Hkb, Hvb, ⟨%fo, Hco⟩, ⟨%fl, Hcl⟩, Hacc⟩, Hkv, ⟨Hx, Hwq, Hwo⟩, Hout, HK⟩
  rw [WP_device]
  ihave Hco := ((Entails.of_eq (whole_co c fo)).trans (four_out _)) $$ Hco
  ihave Hcl := ((Entails.of_eq (whole_cl c fl)).trans (four_out _)) $$ Hcl
  icases Hco with ⟨Ho0, Ho1, Ho2, Ho3⟩
  icases Hcl with ⟨Hl0, Hl1, Hl2, Hl3⟩
  ihave Ho0 := (four_any c 0 fo) $$ Ho0
  ihave Ho1 := (four_any c 1 fo) $$ Ho1
  ihave Ho2 := (four_any c 2 fo) $$ Ho2
  ihave Ho3 := (four_any c 3 fo) $$ Ho3
  ihave Hsl := (slots_split c) $$ [Hkb Hvb]
  · isplitl [Hkb] <;> iassumption
  icases Hsl with ⟨Hs0, Hs1⟩
  ihave Hkv := (four_out _) $$ Hkv
  icases Hkv with ⟨Hk0, Hk1, Hk2, Hk3⟩
  -- the handshake
  iapply (step_then (c := c) (BI.Entails.refl _))
  iapply (step_shake A K c)
  isplitr; · iexact HR
  isplitl [HO]; · iexact HO
  isplitl [HtB1]; · iexact HtB1
  isplitl [HtB2]; · iexact HtB2
  isplitl [Ho1 Hl1]
  · iapply (landing_intro c 1); isplitl [Ho1]; · iexact Ho1
    iexists fl; iexact Hl1
  isplitl [Ho3 Hl3]
  · iapply (landing_intro c 3); isplitl [Ho3]; · iexact Ho3
    iexists fl; iexact Hl3
  isplitl [HcB]; · iexact HcB
  isplitl [HaB]; · iexact HaB
  iintro ⟨HO, HaB, Hd1, Hd3⟩
  ihave Hd1 := (landing_elim (p1 c) 1) $$ Hd1
  ihave Hd3 := (landing_elim (p2 c) 3) $$ Hd3
  icases Hd1 with ⟨Hd1, Hm1⟩
  icases Hd3 with ⟨Hd3, Hm3⟩
  -- the first load and the projection of the queries
  iapply (step_then (c := c) (BI.Entails.refl _))
  iapply (step_startLoad A K c 0 0 0 rfl (by decide))
  isplitr; · iexact HR
  isplitl [Hs0]; · iexact Hs0
  isplitl [Hk0]; · iexact Hk0
  isplitl [Ht00]
  · iapply (ready_intro c 0 0)
    isplitl [Ht00]; · iexact Ht00
    iapply (rchLd_zero A K c 0); iexact HR
  iintro Hf
  iapply (step_then (c := c) (BI.Entails.refl _))
  iapply (step_prep A c)
  isplitl [Hx]; · iexact Hx
  isplitl [Hwq]; · iexact Hwq
  isplitl [Hq]; · iexact Hq
  isplitl [Hl0]; · iexists fl; iexact Hl0
  iintro ⟨Hx, Hwq, Hq, Hl0⟩
  -- the first exchange
  iapply (step_then (c := c) (BI.Entails.refl _))
  iapply (step_first A K c)
  isplitr; · iexact HR
  isplitl [Hf]; · iexact Hf
  isplitl [Hp0]; · iexact Hp0
  isplitl [Hp1]; · iexact Hp1
  isplitl [Hs1]; · iexact Hs1
  isplitl [Hk1 Hk2 Hk3]
  · isplitl [Hk1]; · iexact Hk1
    isplitl [Hk2] <;> iassumption
  isplitl [Ht10 Ht01 Ht11]
  · isplitl [Ht10]; · iexact Ht10
    isplitl [Ht01] <;> iassumption
  isplitl [Hq]; · iexact Hq
  isplitl [Hl0]; · iexact Hl0
  isplitl [Ho0 Hd1 HtS1 HtR1]
  · iapply (pre1_intro c)
    isplitl [Ho0]; · iexact Ho0
    isplitl [Hd1]; · iexact Hd1
    isplitl [HtS1] <;> iassumption
  isplitl [HO]; · iexact HO
  iintro ⟨Hp0, Hp1, Hs0, Hs1, Hkv, Hq, Hl0, Hb, HO⟩
  -- the second exchange
  iapply (step_then (c := c) (BI.Entails.refl _))
  iapply (step_second A K c)
  isplitr; · iexact HR
  isplitl [Hl0]; · iexact Hl0
  isplitl [Hm1 Hl2 Hm3 HtL0 HtM0 HtL1 HtM1 HcM0 HaM0]
  · unfold preL
    isplitl [Hm1]; · iexact Hm1
    isplitl [Hl2]; · iexists fl; iexact Hl2
    isplitl [Hm3]; · iexact Hm3
    isplitl [HtL0]; · iexact HtL0
    isplitl [HtM0]; · iexact HtM0
    isplitl [HtL1]; · iexact HtL1
    isplitl [HtM1]; · iexact HtM1
    isplitl [HcM0] <;> iassumption
  isplitl [Hb]; · iexact Hb
  isplitl [HcR1 HaR1 Ho2 Hd3 HtS2 HtR2]
  · iapply (pre2_intro c)
    isplitl [HcR1]; · iexact HcR1
    isplitl [HaR1]; · iexact HaR1
    isplitl [Ho2]; · iexact Ho2
    isplitl [Hd3]; · iexact Hd3
    isplitl [HtS2] <;> iassumption
  isplitl [HO]; · iexact HO
  iintro ⟨HpL, Hb, HO⟩
  unfold postL
  icases HpL with ⟨Hl0, Hl1, Hl2, HcL0, HcL1, HaM0⟩
  -- the normalisation and the projection
  iapply (step_then (c := c) (BI.Entails.refl _))
  iapply (step_third A K c)
  isplitr; · iexact HR
  isplitl [Hl2 HcM1 HaM1]
  · isplitl [Hl2]; · iexact Hl2
    isplitl [HcM1] <;> iassumption
  isplitl [Hb]; · iexact Hb
  isplitl [HcR2 HaR2]
  · iapply (crd3_intro c); isplitl [HcR2] <;> iassumption
  isplitl [Hacc Hwo Hout]
  · unfold outs
    isplitl [Hacc]; · iexact Hacc
    isplitl [Hwo]; · iexact Hwo
    unfold rows
    icases Hout with ⟨%fu, Hout⟩
    iexists fu
    isplitr; · ipureintro; exact fun i h => absurd h (Nat.not_lt_zero _)
    iexact Hout
  isplitl [HO]; · iexact HO
  iintro ⟨⟨Hl2, Hl3, HaM1⟩, Hb, Hu, HO⟩
  ihave Hb := (post3_elim A c) $$ [Hb HaS1 HaS2]
  · isplitl [Hb]; · iexact Hb
    isplitl [HaS1] <;> iassumption
  icases Hb with ⟨Hb1, Hb2, HaR1, HaR2, Ho1, Ho3⟩
  -- the last waits
  iapply (step_drain A K c)
  isplitr; · iexact HR
  isplitl [Hb1]; · iexact Hb1
  isplitl [HcL0 HcL1 HaL0 HaL1 Hl0 Hl2]
  · unfold outL
    isplitl [HcL0 HaL0 Hl0]
    · isplitl [HcL0]; · iexact HcL0
      isplitl [HaL0] <;> iassumption
    · isplitl [HcL1]; · iexact HcL1
      isplitl [HaL1] <;> iassumption
  isplitl [Hb2]; · iexact Hb2
  isplitl [HO]; · iexact HO
  iintro ⟨Hb1, HL, Hb2, HO⟩
  unfold inL
  icases HL with ⟨⟨HaL0, Hl0⟩, HaL1, Hl2⟩
  ihave Hb1 := (in1_elim A c) $$ Hb1
  ihave Hb2 := (in2_elim A c) $$ Hb2
  icases Hb1 with ⟨HaS1, Ho0⟩
  icases Hb2 with ⟨HaS2, Ho2⟩
  unfold outs rows
  icases Hu with ⟨Hacc, Hwo, ⟨%fu, %hu, Hout⟩⟩
  rw [rowsTo_all A c fu hu]
  ihave Hsl := (slots_join A c 2 3) $$ [Hs0 Hs1]
  · isplitl [Hs0] <;> iassumption
  icases Hsl with ⟨Hkb, Hvb⟩
  iapply HK
  isplitl [HO]; · iexact HO
  isplitl [HaB Hp0 Hp1 HaS1 HaR1 HaS2 HaR2 HaL0 HaL1 HaM0 HaM1]
  · isplitl [HaB]; · iexact HaB
    isplitl [Hp0 Hp1]; · isplitl [Hp0] <;> iassumption
    isplitl [HaS1]; · iexact HaS1
    isplitl [HaR1]; · iexact HaR1
    isplitl [HaS2]; · iexact HaS2
    isplitl [HaR2]; · iexact HaR2
    isplitl [HaL0]; · iexact HaL0
    isplitl [HaL1]; · iexact HaL1
    isplitl [HaM0] <;> iassumption
  isplitl [Hq Hkb Hvb Ho0 Ho1 Ho2 Ho3 Hl0 Hl1 Hl2 Hl3 Hacc]
  · isplitl [Hq]; · iexists (qA A c); iexact Hq
    isplitl [Hkb]; · iexact Hkb
    isplitl [Hvb]; · iexact Hvb
    isplitl [Ho0 Ho1 Ho2 Ho3]
    · iexists (Co A c)
      iapply ((four_in _).trans (Entails.of_eq (whole_co c _).symm))
      isplitl [Ho0]; · iexact Ho0
      isplitl [Ho1]; · iexact Ho1
      isplitl [Ho2] <;> iassumption
    isplitl [Hl0 Hl1 Hl2 Hl3]
    · iexists (Cl A c)
      iapply ((four_in _).trans (Entails.of_eq (whole_cl c _).symm))
      isplitl [Hl0]; · iexact Hl0
      isplitl [Hl1]; · iexact Hl1
      isplitl [Hl2] <;> iassumption
    iexact Hacc
  isplitl [Hkv]; · iexact Hkv
  isplitl [Hx Hwq Hwo]
  · isplitl [Hx]; · iexact Hx
    isplitl [Hwq] <;> iassumption
  iexact Hout

end Cert.KernelIdealProof

end
-- ==== Proof.Ghost.lean ====
/-
# What the launch deals and what comes back

The semaphore cells of all devices are set up at once; each device gets its positions, the tokens of the
duties it pays and its credit. After the body every cell is at its last round and closes at zero.
-/
module

public import proofs.«01_k».proof.Proof.Whole

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Option (Fin 24) → ℕ) (c : Dev nD)

/-! ## One assertion per cell of a device, listed -/

theorem regroup_sep (P Q R : sProp 𝕄) : iprop((P ∗ Q) ∗ R) = iprop(P ∗ Q ∗ R) := BI.equiv_iff.mp ⟨BI.sep_assoc, BI.sep_assoc'⟩
theorem bigSep_cells (Φ : Option (Fin 24) → sProp 𝕄) : bigSep Finset.univ Φ
    = iprop(Φ none ∗ ((Φ (some 0) ∗ Φ (some 2)) ∗ Φ (some 1) ∗ Φ (some 3))
      ∗ (Φ (some 4) ∗ Φ (some 5) ∗ Φ (some 6) ∗ Φ (some 7)) ∗ (Φ (some 8) ∗ Φ (some 9) ∗ Φ (some 10) ∗ Φ (some 11))
      ∗ (Φ (some 12) ∗ Φ (some 13) ∗ Φ (some 14) ∗ Φ (some 15)) ∗ (Φ (some 16) ∗ Φ (some 17) ∗ Φ (some 18) ∗ Φ (some 19))
      ∗ (Φ (some 20) ∗ Φ (some 21) ∗ Φ (some 22) ∗ Φ (some 23))) := by
  refine (bigSep_univ_eq_bigSepL [none, some 0, some 2, some 1, some 3, some 4, some 5, some 6, some 7, some 8, some 9, some 10, some 11,
    some 12, some 13, some 14, some 15, some 16, some 17, some 18, some 19, some 20, some 21, some 22, some 23] (by decide) (by decide) Φ).trans ?_
  simp only [bigSepL, regroup_sep]
  rfl

/-- The round at which a cell is done. -/
def lastR : Option (Fin 24) → ℕ
  | none => 1
  | some k => if k.val < 4 then 2 else 1

theorem pos_start : (bigSep Finset.univ fun o => (atPos ER (kcell (c, o)) 0 ∅ 0 : sProp 𝕄)) = posAll c 0 0 0 := by
  rw [bigSep_cells]; unfold posAll four posLd posn; rfl
theorem pos_end : (bigSep Finset.univ fun o => (atPos ER (kcell (c, o)) (lastR o) ∅ 0 : sProp 𝕄)) = posAll c 1 2 1 := by
  rw [bigSep_cells]; unfold posAll four posLd posn; rfl

/-- The cells of a device: the runtime's barrier and the kernel's own semaphores. -/
theorem cells_sems : (bigSep Finset.univ fun o => (semVal (kcell (c, o)) 0 : sProp 𝕄))
    = iprop(unscopedSems0 c ∗ Pipeline.ownSems0 (Ix := Unit) (Name := ℕ) (U := UU) (Lvl := ℕ) (Val := Elt F) (τ := τ) osem c) := by
  have h1 : (unscopedSems0 c : sProp 𝕄) = semVal (barCell c) 0 := by
    unfold unscopedSems0; rw [bigSep_eq_bigSepL_of_eq [SemLoc.reg barS] (by decide) (by decide)]; rfl
  rw [h1, bigSep_univ_at _ none,
    show (Finset.univ.erase none : Finset (Option (Fin 24))) = Finset.univ.map ⟨some, Option.some_injective _⟩ from by decide, bigSep_map]
  rfl

theorem cell_done (o : Option (Fin 24)) : ∀ r, lastR o ≤ r → (Rd A).duties (kcell (c, o)) r = ∅ := by
  rcases o with _ | k
  · exact duties_bar_ge1 A c
  by_cases h : k.val < 4
  · rw [show lastR (some k) = 2 from if_pos h]; exact duties_ge2 A c _
  · rw [show lastR (some k) = 1 from if_neg h]; exact duties_ge1 A c _ (by show 8 ≤ 4 + k.val; omega)

/-- Every cell at its last round closes at zero. -/
theorem close_all : iprop(records A K ∗ posAll c 1 2 1)
    ⊢ |={Set.univ}=> iprop(unscopedSems0 c ∗ Pipeline.ownSems0 (Ix := Unit) (Name := ℕ) (U := UU) (Lvl := ℕ) (Val := Elt F) (τ := τ) osem c) := by
  rw [← pos_end, ← cells_sems]
  refine (BI.bigSep_with_persistent (S := Finset.univ) (R := records A K) (Φ := fun o => (atPos ER (kcell (c, o)) (lastR o) ∅ 0 : sProp 𝕄))
    (Ψ := fun o => iprop(|={Set.univ}=> semVal (kcell (c, o)) 0)) fun o _ => ?_).trans (bigSep_fupd _ _)
  refine (sep_mono_left ((rec_inv A K).trans (bigSep_elim (Finset.mem_univ (c, o))))).trans ?_
  exact Rounds.cell_close ER (Rd A) (Set.mem_univ _) (fun h => h) (cell_done A c o)

/-! ## The tokens: minted with the cells, dealt to who pays -/

theorem kcell_injective : Function.Injective (kcell : Dev nD × Option (Fin 24) → GSem nD τ sig) := by
  rintro ⟨d, o⟩ ⟨d', o'⟩ h
  have h1 : d = d' := congrArg (fun g : GSem nD τ sig => g.1.1) h
  have h2 : csem o = csem o' := congrArg Prod.snd h
  have h3 : o = o' := by
    rcases o with _ | k <;> rcases o' with _ | k'
    · rfl
    · exact absurd h2 (fun h => by cases h)
    · exact absurd h2 (fun h => by cases h)
    · have h4 : dsem (4 + k.val) (by omega) = dsem (4 + k'.val) (by omega) := SemLoc.dma.inj h2
      have h5 : 4 + k.val = 4 + k'.val := congrArg Fin.val h4
      exact congrArg some (Fin.ext (by omega))
  rw [h1, h3]
def ringCells : Finset (GSem nD τ sig) := Finset.univ.map ⟨kcell, kcell_injective⟩

/-- A device's duties: one of every cell, the barrier's second, and the second rounds of the loads. -/
abbrev Tk : Type := Option (Fin 24) ⊕ Option (Fin 4)
def tkO : Tk → Option (Fin 24)
  | .inl o => o
  | .inr o => o.map fun k => ⟨k.val, by omega⟩
def tkR : Tk → ℕ
  | .inl _ => 0
  | .inr none => 0
  | .inr (some _) => 1
def tkD : Tk → Bool
  | .inr none => true
  | _ => false
def tokOf (cj : Dev nD × Tk) : GSem nD τ sig × ℕ × Bool := (kcell (cj.1, tkO cj.2), tkR cj.2, tkD cj.2)

theorem tk_inj : ∀ j j' : Tk, tkO j = tkO j' → tkR j = tkR j' → tkD j = tkD j' → j = j' := by
  rintro (o | o) (o' | o') h1 h2 h3
  · exact congrArg Sum.inl h1
  · rcases o' with _ | k'
    · exact absurd h3 (show ¬(false = true) by decide)
    · exact absurd h2 (by decide : ¬(0 = 1))
  · rcases o with _ | k
    · exact absurd h3 (show ¬(true = false) by decide)
    · exact absurd h2 (by decide : ¬(1 = 0))
  · rcases o with _ | k <;> rcases o' with _ | k'
    · rfl
    · exact absurd h2 (by decide : ¬(0 = 1))
    · exact absurd h2 (by decide : ¬(1 = 0))
    · have h4 : (⟨k.val, by omega⟩ : Fin 24) = ⟨k'.val, by omega⟩ := Option.some.inj h1
      exact congrArg (fun k => Sum.inr (some k)) (Fin.ext (show k.val = k'.val from congrArg (fun i : Fin 24 => i.val) h4))
theorem tokOf_injective : Function.Injective tokOf := by
  rintro ⟨d, j⟩ ⟨d', j'⟩ h
  have h1 := kcell_injective (congrArg Prod.fst h)
  have h2 : tkR j = tkR j' := congrArg (fun x => x.2.1) h
  have h3 : tkD j = tkD j' := congrArg (fun x => x.2.2) h
  have h4 : d = d' := congrArg Prod.fst h1
  have h5 : tkO j = tkO j' := congrArg Prod.snd h1
  rw [h4, tk_inj j j' h5 h2 h3]
def ringToks : Finset (GSem nD τ sig × ℕ × Bool) := Finset.univ.map ⟨tokOf, tokOf_injective⟩

/-- A device's partner in a duty: it pays that duty of the partner's cell, and the partner the one of its own. -/
def mate : Tk → Dev nD → Dev nD
  | .inl none => p1
  | .inl (some k) => if 8 ≤ k.val ∧ k.val < 12 ∨ k.val = 22 then p1 else if 16 ≤ k.val ∧ k.val < 20 ∨ k.val = 23 then p2 else id
  | .inr none => p2
  | .inr (some _) => id
theorem mate_mate (j : Tk) : Function.Involutive (mate j) := by
  have h0 : Function.Involutive (id : Dev nD → Dev nD) := fun _ => rfl
  rcases j with (_ | k) | (_ | k)
  · exact p1_p1
  · show Function.Involutive (if 8 ≤ k.val ∧ k.val < 12 ∨ k.val = 22 then p1 else if 16 ≤ k.val ∧ k.val < 20 ∨ k.val = 23 then p2 else id)
    by_cases h1 : 8 ≤ k.val ∧ k.val < 12 ∨ k.val = 22
    · rw [if_pos h1]; exact p1_p1
    rw [if_neg h1]
    by_cases h2 : 16 ≤ k.val ∧ k.val < 20 ∨ k.val = 23
    · rw [if_pos h2]; exact p2_p2
    rw [if_neg h2]; exact h0
  · exact p2_p2
  · exact h0

def tkAt (j : Tk) : sProp 𝕄 := dutyTok ER (kcell (c, tkO j)) (tkR j) (tkD j)
def toks : sProp 𝕄 := bigSep Finset.univ fun j => tkAt c j
def payToks : sProp 𝕄 := bigSep Finset.univ fun j => tkAt (mate j c) j

theorem toks_around : (bigSep Finset.univ fun c : Dev nD => (toks c : sProp 𝕄)) = bigSep Finset.univ fun c : Dev nD => payToks c := by
  unfold toks payToks
  rw [bigSep_univ_comm, bigSep_univ_comm (fun (c : Dev nD) j => (tkAt (mate j c) j : sProp 𝕄))]
  exact bigSep_congr fun j _ => bigSep_univ_equiv (mate_mate j).toPerm fun c => (tkAt c j : sProp 𝕄)

theorem bigSep_more (Φ : Option (Fin 4) → sProp 𝕄) : bigSep Finset.univ Φ
    = iprop(Φ none ∗ (Φ (some 0) ∗ Φ (some 2)) ∗ Φ (some 1) ∗ Φ (some 3)) := by
  refine (bigSep_univ_eq_bigSepL [none, some 0, some 2, some 1, some 3] (by decide) (by decide) Φ).trans ?_
  simp only [bigSepL, regroup_sep]
  rfl

theorem payToks_elim : (payToks c : sProp 𝕄) ⊢ tokAll c := by
  have h1 : (bigSep Finset.univ fun o => (tkAt (mate (.inl o) c) (.inl o) : sProp 𝕄))
      = iprop(dutyTok ER (barCell (p1 c)) 0 false ∗ (ldtk c 0 0 ∗ ldtk c 1 0)
        ∗ four (fun b => tok c (s1Sem b) 0) ∗ four (fun b => tok (p1 c) (r1Sem b) 0) ∗ four (fun b => tok c (s2Sem b) 0) ∗ four (fun b => tok (p2 c) (r2Sem b) 0)
        ∗ (tok c (lsSem 0) 0 ∗ tok c (lsSem 1) 0 ∗ tok (p1 c) (lrSem 0) 0 ∗ tok (p2 c) (lrSem 1) 0)) := by
    rw [bigSep_cells]; unfold four ldtk tok; rfl
  have h2 : (bigSep Finset.univ fun o => (tkAt (mate (.inr o) c) (.inr o) : sProp 𝕄))
      = iprop(dutyTok ER (barCell (p2 c)) 0 true ∗ ldtk c 0 1 ∗ ldtk c 1 1) := by
    rw [bigSep_more]; unfold ldtk tok; rfl
  unfold payToks
  rw [bigSep_univ_sum, h1, h2]
  unfold tokAll
  show iprop(_ ∗ _) ⊢ _
  iintro ⟨⟨H1, ⟨H00, H10⟩, Hs1, Hr1, Hs2, Hr2, Hl⟩, H2, H01, H11⟩
  isplitl [H1 H2]; · isplitl [H1] <;> iassumption
  isplitl [H00 H10 H01 H11]
  · isplitl [H00]; · iexact H00
    isplitl [H10]; · iexact H10
    isplitl [H01] <;> iassumption
  isplitl [Hs1]; · iexact Hs1
  isplitl [Hr1]; · iexact Hr1
  isplitl [Hs2]; · iexact Hs2
  isplitl [Hr2] <;> iassumption

/-! ## The launch element and the global step -/

def u₀ : UU :=
  (initOf (Pipeline.cells cfgs cellOf_inj) (Pipeline.launchToks cfgs cellOf_inj), initOf ringCells ringToks)

/-- What the launch element deals a device. -/
def G : sProp 𝕄 :=
  iprop((bigSep Finset.univ fun o => roundState ER (Rd A) (kcell (c, o)) 0)
    ∗ (bigSep Finset.univ fun o => atPos ER (kcell (c, o)) 0 ∅ 0) ∗ (bigSep Finset.univ fun o => reached ER (kcell (c, o)) 0) ∗ toks c)

/-- The invariants and the rounds reached, of all cells. -/
def recs : sProp 𝕄 :=
  iprop((bigSep Finset.univ fun ck : Dev nD × Option (Fin 24) => cellInv ER (Rd A) (K ck) (kcell ck))
    ∗ bigSep Finset.univ fun ck : Dev nD × Option (Fin 24) => reached ER (kcell ck) 0)
instance recs_persistent : BI.Persistent (recs A K) := by unfold recs; infer_instance

/-- What the global step makes of it. -/
def G' : sProp 𝕄 := iprop(∃ K, recs A K ∗ posAll c 0 0 0 ∗ tokAll c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun o => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd A) ringCells ringToks) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

theorem core_alloc :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun o => iprop(∃ κ : ℕ, cellInv ER (Rd A) κ (kcell (c, o))))
          ∗ (bigSep Finset.univ fun o => reached ER (kcell (c, o)) 0) ∗ posAll c 0 0 0 ∗ toks c) := by
  have h : iprop((bigSep Finset.univ fun o => semVal (kcell (c, o)) 0) ∗ bigSep Finset.univ fun o => roundState ER (Rd A) (kcell (c, o)) 0)
      ⊢ (|={Set.univ}=> bigSep Finset.univ fun o => iprop(∃ κ : ℕ, cellInv ER (Rd A) κ (kcell (c, o))) : sProp 𝕄) := by
    rw [← bigSep_sep']
    exact (bigSep_mono fun o _ => (Rounds.body_intro ER (Rd A) (kcell (c, o))).trans inv_alloc).trans (bigSep_fupd _ _)
  unfold G
  iintro ⟨Hos, Hus, Hst, Hat, Hr, Htok⟩
  ihave Hv := (Entails.of_eq (cells_sems (F := F) c).symm) $$ [Hos Hus]
  · isplitl [Hus] <;> iassumption
  imod h $$ [Hv Hst] with Hinv
  · isplitl [Hv] <;> iassumption
  ihave Hat := (Entails.of_eq (pos_start c)) $$ Hat
  imodintro
  isplitl [Hinv]; · iexact Hinv
  isplitl [Hr]; · iexact Hr
  isplitl [Hat] <;> iassumption

theorem regroup :
    (bigSep Finset.univ fun c : Dev nD => iprop((bigSep Finset.univ fun o => iprop(∃ κ : ℕ, cellInv ER (Rd A) κ (kcell (c, o))))
          ∗ (bigSep Finset.univ fun o => reached ER (kcell (c, o)) 0) ∗ posAll c 0 0 0 ∗ toks c) : sProp 𝕄)
      ⊢ bigSep Finset.univ (G' A) := by
  rw [bigSep_sep', bigSep_sep', bigSep_sep', toks_around, ← bigSep_univ_prod (fun ck : Dev nD × Option (Fin 24) => iprop(∃ κ : ℕ, cellInv ER (Rd A) κ (kcell ck))),
    ← bigSep_univ_prod (fun ck : Dev nD × Option (Fin 24) => (reached ER (kcell ck) 0 : sProp 𝕄))]
  iintro ⟨HI, #HR, Hat, Htok⟩
  ihave HK := (BI.bigSep_exists_pi Finset.univ (fun (ck : Dev nD × Option (Fin 24)) (κ : ℕ) => (cellInv ER (Rd A) κ (kcell ck) : sProp 𝕄))) $$ HI
  icases HK with ⟨%K, #HI⟩
  iapply (BI.bigSep_with_persistent (S := Finset.univ) (R := recs A K) (Φ := fun c => iprop(posAll c 0 0 0 ∗ payToks c)) (Ψ := G' A) fun c _ => by
    unfold G'
    iintro ⟨HR, Hat, Htok⟩
    iexists K
    isplitl [HR]; · iexact HR
    isplitl [Hat]; · iexact Hat
    iapply (payToks_elim c); iexact Htok)
  isplitr
  · unfold recs; isplitl; · iexact HI
    iexact HR
  · rw [bigSep_sep']
    isplitl [Hat] <;> iassumption

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch credit -/

/-- What a list of debts owes a device's cell at semaphore `sm`, all devices together. -/
def need (sm : SemLoc sig) (l : List Debt) : ℕ := ((l.filter fun e => e.2.1 = sm).map fun e => e.2.2).sum

theorem sum_tal (sm : SemLoc sig) : ∀ l : List Debt, (∀ e ∈ l, Function.Involutive e.1) →
    ∑ d, tal d l ((c : Thread nD τ), sm) () = need sm l
  | [], _ => by unfold tal need; simp
  | e :: l, h => by
    have ih := sum_tal sm l fun e he => h e (List.mem_cons_of_mem _ he)
    have he := h e List.mem_cons_self
    have h1 (d : Dev nD) : (tal d (e :: l)) ((c : Thread nD τ), sm) () = tal d l ((c : Thread nD τ), sm) () + if d = e.1 c then (if e.2.1 = sm then e.2.2 else 0) else 0 := by
      show (tal d l + tallyAt (((e.1 d : Dev nD) : Thread nD τ), e.2.1) () e.2.2 : CellTallies nD τ sig Unit) ((c : Thread nD τ), sm) () = _
      rw [Pi.add_apply, Finsupp.add_apply, tallyAt_apply]
      congr 1
      by_cases hd : d = e.1 c
      · rw [if_pos hd, hd, he c]
        by_cases hs : e.2.1 = sm
        · rw [if_pos hs, hs, if_pos ⟨rfl, rfl⟩]
        · rw [if_neg hs, if_neg fun h => hs (congrArg Prod.snd h.1).symm]
      · rw [if_neg hd, if_neg fun h => hd (by
          have h2 : c = e.1 d := congrArg (fun g : GSem nD τ sig => g.1.1) h.1
          rw [h2, he d])]
    rw [Finset.sum_congr rfl fun d _ => h1 d, Finset.sum_add_distrib, ih, Finset.sum_ite_eq' Finset.univ (e.1 c), if_pos (Finset.mem_univ _)]
    unfold need
    by_cases hs : e.2.1 = sm
    · rw [if_pos hs, List.filter_cons_of_pos (by simpa using hs), List.map_cons, List.sum_cons, Nat.add_comm]
    · rw [if_neg hs, List.filter_cons_of_neg (by simpa using hs), Nat.add_zero]

theorem debts_inv : ∀ e ∈ debts, Function.Involutive e.1 := by
  intro e he
  have h : e.1 = p1 ∨ e.1 = p2 := by
    unfold debts at he
    fin_cases he <;> first | exact Or.inl rfl | exact Or.inr rfl
  rcases h with h | h
  · rw [h]; exact p1_p1
  · rw [h]; exact p2_p2

theorem launch_cell (sm : SemLoc sig) :
    tallyOn ((c : Thread nD τ), sm) (launchCredit (Pipeline.owing fun d => tal d debts) 0 ((c : Thread nD τ), sm))
      = (tallyAt ((c : Thread nD τ), sm) () (need sm debts) : CellTallies nD τ sig Unit) := by
  unfold tallyAt; refine congrArg _ (Finsupp.ext fun u => ?_); cases u
  rw [Pipeline.launchCredit_owing, Finsupp.single_eq_same, sum_tal c sm debts debts_inv]

theorem creds : (Pipeline.launchCred (fun d => tal d debts) c : sProp 𝕄) ⊢ crdAll c := by
  have h0 : (Pipeline.launchCred (fun d => tal d debts) c : sProp 𝕄) = bigSep Finset.univ fun sm => cred (tallyAt ((c : Thread nD τ), sm) () (need sm debts)) := by
    unfold Pipeline.launchCred
    exact bigSep_congr fun sm _ => by rw [launch_cell c sm]
  have h1 : (bigSep Finset.univ fun sm => (cred (tallyAt ((c : Thread nD τ), sm) () (need sm debts)) : sProp 𝕄))
      ⊢ bigSep Finset.univ fun o => cred (tallyAt (kcell (c, o)) () (need (csem o) debts)) := by
    have hc : Function.Injective csem := fun o o' h => congrArg Prod.snd (kcell_injective (show kcell (c, o) = kcell (c, o') from congrArg (Prod.mk _) h))
    refine (bigSep_subset (Finset.subset_univ (Finset.univ.map ⟨csem, hc⟩))).trans ?_
    rw [bigSep_map]; exact BI.Entails.refl _
  have hb : need (.reg barS) debts = 2 := by decide
  have hr1 (b : Fin 4) : need (.dma (r1Sem b)) debts = NO := by fin_cases b <;> rfl
  have hr2 (b : Fin 4) : need (.dma (r2Sem b)) debts = NO := by fin_cases b <;> rfl
  have hl0 : need (.dma (lrSem 0)) debts = NL := rfl
  have hl1 : need (.dma (lrSem 1)) debts = NL := rfl
  rw [h0]
  refine h1.trans ?_
  rw [bigSep_cells]
  unfold crdAll
  rw [show (cred (tallyAt (barCell c) () 2) : sProp 𝕄) = cred (tallyAt (barCell c) () (need (.reg barS) debts)) from by rw [hb],
    show (crd c (lrSem 0) NL : sProp 𝕄) = crd c (lrSem 0) (need (.dma (lrSem 0)) debts) from by rw [hl0],
    show (crd c (lrSem 1) NL : sProp 𝕄) = crd c (lrSem 1) (need (.dma (lrSem 1)) debts) from by rw [hl1], show (fun b => (crd c (r1Sem b) NO : sProp 𝕄)) = fun b => crd c (r1Sem b) (need (.dma (r1Sem b)) debts) from funext fun b => by rw [hr1 b],
    show (fun b => (crd c (r2Sem b) NO : sProp 𝕄)) = fun b => crd c (r2Sem b) (need (.dma (r2Sem b)) debts) from funext fun b => by rw [hr2 b]]
  unfold four crd
  iintro ⟨H0, -, -, H1, -, H2, -, -, H3, H4⟩
  isplitl [H0]; · iexact H0
  isplitl [H1]; · iexact H1
  isplitl [H2]; · iexact H2
  isplitl [H3]; · iexact H3
  iexact H4

end Cert.KernelIdealProof

end
-- ==== Proof.Launch.lean ====
/-
# The launch

The pipeline's data around the body, the launch of the four devices, and the run of the whole program:
it ends, its arguments are unchanged, every semaphore is at zero and each device's output is the computed one.
-/
module

public import proofs.«01_k».proof.Proof.Ghost
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The operands the memory holds at launch. -/
def argsOf : Args F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg2))
  k c := m ((c : Thread nD τ).loc main_arg3)
  v c := m ((c : Thread nD τ).loc main_arg4)

def O₀ (c : Dev nD) : CellTallies nD τ sig Unit := tal c debts

/-- What a device's body starts from beside the pipeline's buffers; -/
def start (c : Dev nD) : sProp 𝕄 :=
  iprop((∃ K, records (argsOf m) K ∗ posAll c 0 0 0 ∗ tokAll c) ∗ crdAll c ∗ kv (argsOf m) c)
def Φ₀ (c : Dev nD) : sProp 𝕄 := iprop(start m c ∗ scratch c)
/-- and what it ends with. -/
def Φ₁ (c : Dev nD) : sProp 𝕄 :=
  iprop((unscopedSems0 c ∗ kv (argsOf m) c) ∗ Pipeline.ownSems0 (Ix := Unit) (Name := ℕ) (U := UU) (Lvl := ℕ) (Val := Elt F) (τ := τ) osem c ∗ scratch c)

def dats (_ : Fin 1) (c : Dev nD) : Dat τ (Elt F) Unit ℕ UU ℕ cfg0 c where
  A w := m ((cfg0.win w).arr.view.loc (c : Thread nD τ))
  after w _ := match w with
    | ⟨0, _⟩ => (argsOf m).x c
    | ⟨1, _⟩ => (argsOf m).wq c
    | ⟨2, _⟩ => (argsOf m).wo c
    | ⟨3, _⟩ => outA (argsOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ
    ∗ stg c cc0_stg0_0 ((argsOf m).x c) ∗ stg c cc0_stg1_0 ((argsOf m).wq c) ∗ stg c cc0_stg2_0 ((argsOf m).wo c) ∗ stg c cc0_stg3_0 (outA (argsOf m) c))

theorem WP_update (c : Dev nD) (p : P F PUnit) (Kt Kt' : PUnit → sProp 𝕄) (h : ∀ u, Kt u ⊢ |={Set.univ}=> Kt' u) : WP c p Kt ⊢ WP c p Kt' :=
  (wp_mono _ _ _ h).trans (wp_fupd _ _ _ _ _)

theorem sound_body (c : Dev nD) : bodyPre m c ⊢ WP c (printed (F := F)) (fun _ => bodyPost m c) := by
  rw [printed_eq]
  unfold bodyPre Φ₀ start
  iintro ⟨⟨⟨⟨%K, #HR, Hpos, Htok⟩, Hcrd, Hkv⟩, Hscr⟩, Ho, ⟨%d0, %g0, %hg0, Hx⟩, ⟨%d1, %g1, %hg1, Hwq⟩, ⟨%d2, %g2, %hg2, Hwo⟩, ⟨%d3, %g3, %hg3, Hout⟩⟩
  have h0 : g0 = (argsOf m).x c := by rw [hg0]; unfold Dat.before; rw [if_pos (fetch0_0 t0_0)]; rfl
  have h1 : g1 = (argsOf m).wq c := by rw [hg1]; unfold Dat.before; rw [if_pos (fetch0_1 t0_0)]; rfl
  have h2 : g2 = (argsOf m).wo c := by rw [hg2]; unfold Dat.before; rw [if_pos (fetch0_2 t0_0)]; rfl
  subst h0 h1 h2
  unfold Dat.owesAt Pipeline.owesWithin
  icases Ho with ⟨%W, %hW, HO⟩
  rw [show (dats m 0 c).owed t0_0.castSucc = tal c debts from rfl]
  iapply (WP_update c body (fun _ => iprop(records (argsOf m) K ∗ owesE c [] ∗ posAll c 1 2 1 ∗ scratch c ∗ kv (argsOf m) c ∗ staged (argsOf m) c ∗ whole c cc0_stg3_0 (outA (argsOf m) c))) _ fun _ => by
    iintro ⟨#HR, HO, Hpos, Hscr, Hkv, Hst, Hout⟩
    imod (close_all (argsOf m) K c) $$ [Hpos] with ⟨Hus, Hos⟩
    · isplitr; · iexact HR
      iexact Hpos
    imodintro
    unfold bodyPost Φ₁ Dat.owesAt Pipeline.owesWithin owesE staged whole
    rw [show (dats m 0 c).owed t0_0.succ = 0 from rfl]
    icases HO with ⟨%W, HO⟩
    icases Hst with ⟨Hx, Hwq, Hwo⟩
    isplitl [Hus Hos Hscr Hkv]
    · isplitl [Hus Hkv]; · isplitl [Hus] <;> iassumption
      isplitl [Hos] <;> iassumption
    isplitl [HO]
    · iexists W
      isplitr; · ipureintro; exact fun _ _ => Or.inl trivial
      iexact HO
    isplitl [Hx]
    · iexists _; isplitr; · (ipureintro; rfl)
      iexact Hx
    isplitl [Hwq]
    · iexists _; isplitr; · (ipureintro; rfl)
      iexact Hwq
    isplitl [Hwo]
    · iexists _; isplitr; · (ipureintro; rfl)
      iexact Hwo
    iexists _; isplitr; · (ipureintro; rfl)
    iexact Hout)
  iapply (body_run (argsOf m) K c)
  isplitr; · iexact HR
  isplitl [HO]; · unfold owesE; iexists W; iexact HO
  isplitl [Hpos]; · iexact Hpos
  isplitl [Htok]; · iexact Htok
  isplitl [Hcrd]; · iexact Hcrd
  isplitl [Hscr]; · iexact Hscr
  isplitl [Hkv]; · iexact Hkv
  isplitl [Hx Hwq Hwo]
  · unfold staged whole
    isplitl [Hx]; · iexact Hx
    isplitl [Hwq] <;> iassumption
  isplitl [Hout]; · unfold whole; iexists g3; iexact Hout
  iintro H
  isplitr; · iexact HR
  iexact H

set_option maxRecDepth 16000 in
/-- The pipeline's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (printed (F := F)) (fun _ => bodyPost m c)
  exact sound_body m c

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start m c ∗ emp) := by
  have h : (Pipeline.unscopedRestP (Ix := Unit) (Name := ℕ) (U := UU) (Lvl := ℕ) Pipeline.Prefetch.none cfg0.spec c (fun b => m ((c : Thread nD τ).loc b)) : sProp 𝕄)
      = kv (argsOf m) c :=
    (Pipeline.unscopedRestP_eq_of_list cfg0.spec c Pipeline.Prefetch.none (fun b => m ((c : Thread nD τ).loc b)) [main_arg3, main_arg4] (by decide) (by decide)).trans rfl
  rw [h]
  iintro ⟨Hkv, Hlev, Hcr, -, HG⟩
  ihave Hc := (show (Pipeline.launchCred O₀ c : sProp 𝕄) ⊢ crdAll c from creds c) $$ Hcr
  imodintro
  unfold start G'
  icases HG with ⟨%K, HR, Hpos, Htok⟩
  isplitl
  · isplitl [HR Hlev Hpos Htok]
    · iexists K
      isplitl [HR Hlev]
      · unfold recs records
        icases HR with ⟨HI, HR⟩
        isplitl [HI]; · iexact HI
        isplitl [HR] <;> iassumption
      isplitl [Hpos] <;> iassumption
    isplitl [Hc] <;> iassumption
  · iempintro

theorem scratch_eq (c : Dev nD) : (Pipeline.scopedRest (Ix := Unit) (Name := ℕ) (U := UU) (Lvl := ℕ) (Val := Elt F) cfg0.spec c : sProp 𝕄) = scratch c :=
  (scopedRest0_eq c).trans rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ kv (argsOf m) c) ∗ Pipeline.ownSems0 osem c ∗ Pipeline.scopedRest cfg0.spec c) := by
  rw [show (dats m 0 c).Φ (Fin.last cfg0.N) = Φ₁ m c from rfl, scratch_eq]
  unfold Φ₁; exact BI.Entails.refl _

theorem waits (c : Dev nD) : (levAts L lv : sProp 𝕄) ⊢ Pipeline.cellsWaits cfgs (dats m) () 0 c :=
  Pipeline.cellsWaits_intro cfgs (dats m) () 0 c fun w s t => by
    have h0 : lvS (.dma ((cfg0.win w).sem s)) = 0 := by fin_cases w <;> fin_cases s <;> decide
    have h1 : ∀ e ∈ debts, lvS (.dma ((cfg0.win w).sem s)) < lvS e.2.1 := by rw [h0]; decide
    rcases t with ⟨_ | _, ht⟩
    · exact mayWait_tal c _ debts h1
    · exact mayWait_tal c _ [] fun e he => absurd he List.not_mem_nil

/-! ## The run -/

theorem kv_read (c : Dev nD) (s' : Phys nD τ sig (Elt F)) : iprop(kv (argsOf m) c ∗ SI s')
    ⊢ iprop(⌜s'.mem.mem ((c : Thread nD τ).loc main_arg3) = m ((c : Thread nD τ).loc main_arg3) ∧ s'.mem.mem ((c : Thread nD τ).loc main_arg4) = m ((c : Thread nD τ).loc main_arg4)⌝) := by
  unfold kv whole
  iintro ⟨⟨H3, H4⟩, HSI⟩
  ihave %h3 := (SI_pointsTo_agree (Ix := Unit) (Name := ℕ) (U := UU) (Lvl := ℕ) (st := s')) $$ [HSI H3]
  · isplitl [HSI] <;> iassumption
  ihave %h4 := (SI_pointsTo_agree (Ix := Unit) (Name := ℕ) (U := UU) (Lvl := ℕ) (st := s')) $$ [HSI H4]
  · isplitl [HSI] <;> iassumption
  ipureintro
  exact ⟨funext fun i => h3 i (Finset.mem_univ _), funext fun i => h4 i (Finset.mem_univ _)⟩

def finalA (c : Dev nD) (w : Fin cfg0.W) : Buf (Elt F) ((cfg0.win w).arr.view.loc (c : Thread nD τ)) := (dats m 0 c).arrAt w cfg0.N

def kept (c : Dev nD) (s : MemSt nD τ sig (Elt F)) : Prop :=
  s.mem ((c : Thread nD τ).loc main_arg3) = m ((c : Thread nD τ).loc main_arg3) ∧ s.mem ((c : Thread nD τ).loc main_arg4) = m ((c : Thread nD τ).loc main_arg4)

set_option maxRecDepth 40000 in
theorem run_windows : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      imod (fund_ring (argsOf m)) $$ HX with HG
      imodintro
      isplitl [HP] <;> iassumption)
    (hglob := glob (argsOf m))
    (hA := fun _ _ => rfl) (hpf := fun _ k => k.elim0)
    (X := start m) (Y := fun c => iprop(unscopedSems0 c ∗ kv (argsOf m) c)) (Z := fun _ => iprop(emp))
    (hX := start_intro m ρ) (hin := phi0_intro m) (hout := phi1_exit m)
    (QY := fun c s => kept m c s ∧ ∀ sm : SemLoc sig, sm.isScoped .tc = false → s.sem ((c.tc : Thread nD τ), sm) = 0)
    (hY := fun c s' => by
      iintro ⟨⟨Hu, Hkv⟩, -, HSI⟩
      ihave %hk := (kv_read m c s') $$ [Hkv HSI]
      · isplitl [Hkv] <;> iassumption
      imod (Pipeline.unscopedSems0_read (X := unscopedSems0 c) (c := c) fupd_intro s') $$ [Hu HSI] with ⟨%hu, HSI⟩
      · isplitl [Hu] <;> iassumption
      imodintro
      isplitr; · ipureintro; exact ⟨hk, hu⟩
      iexact HSI)
    (hQ := fun _ h hs => ⟨fun c => ⟨fun w => (h c).1 w, (h c).2.2.1⟩, sem_eq_zero hs fun c => (h c).2.2.2⟩)

/-! ## The final memory -/

theorem read_win0 (f) : (win0_0.blk t0_0).view.read (Elt F) f = f :=
  Memref.read_access_unit_zero (Elt F) main_arg0 (funext fun a => by fin_cases a <;> rfl) (fun a => by fin_cases a <;> decide) f
theorem read_win1 (f) : (win0_1.blk t0_0).view.read (Elt F) f = f :=
  Memref.read_access_unit_zero (Elt F) main_arg1 (funext fun a => by fin_cases a <;> rfl) (fun a => by fin_cases a <;> decide) f
theorem read_win2 (f) : (win0_2.blk t0_0).view.read (Elt F) f = f :=
  Memref.read_access_unit_zero (Elt F) main_arg2 (funext fun a => by fin_cases a <;> rfl) (fun a => by fin_cases a <;> decide) f
theorem read_win3 (f) : (win0_3.blk t0_0).view.read (Elt F) f = f :=
  Memref.read_access_unit_zero (Elt F) main_v1 (funext fun a => by fin_cases a <;> rfl) (fun a => by fin_cases a <;> decide) f

theorem final_out (c : Dev nD) : finalA m c (3 : Fin 4) = outA (argsOf m) c := by
  refine (read_win3 _).symm.trans ?_
  unfold finalA
  rw [show cfg0.N = t0_0.val + 1 from rfl, (dats m 0 c).arrAt_succ (3 : Fin 4) t0_0, if_pos (flush0_3 t0_0)]
  exact View.read_write_univ _ _

/-- The run: arguments unchanged, every semaphore at zero, each device's output computed. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.mem ((c : Thread nD τ).loc main_v1) = outA (argsOf m) c) ∧ r.2.sem = fun _ => 0) :=
  (θ_run _ _ _).mono (fun r h => ⟨fun c => ⟨⟨((h.1 c).1 0).trans ((dats m 0 c).arrAt_in (0 : Fin 4) rfl _),
    ((h.1 c).1 1).trans ((dats m 0 c).arrAt_in (1 : Fin 4) rfl _), ((h.1 c).1 2).trans ((dats m 0 c).arrAt_in (2 : Fin 4) rfl _),
    (h.1 c).2.1, (h.1 c).2.2⟩, ((h.1 c).1 3).trans (final_out m c)⟩, h.2⟩) (run_windows m ρ)

end Cert.KernelIdealProof

end
-- ==== Proof.Frames.lean ====
/-
# The frames

Each program ends with its arguments unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelIdealProof

open Idealize.ShloMosaic Idealize.SL.Sem

/-- The two programs have the same text, so their rows of kernel bodies are the same. -/
theorem rows_kernel : Cert.Kernel.defs₀ (F := Bits) = Cert.KernelIdeal.defs₀ (F := Bits) := by
  unfold Cert.Kernel.defs₀ Cert.KernelIdeal.defs₀
  refine congrArg _ ?_
  funext l a
  obtain ⟨l, hl⟩ := l
  obtain rfl : l = 0 := by omega
  obtain ⟨t, s⟩ := a
  rfl

/-- The whole tables of calls of the two programs are the same. -/
theorem table_kernel : Cert.Kernel.defs (F := Bits) = Cert.KernelIdeal.defs (F := Bits) := by
  unfold Cert.Kernel.defs Cert.KernelIdeal.defs
  exact congrArg _ rows_kernel

/-- The kernel as given has the idealized one's text, so its run is that one's at bit patterns. -/
theorem frame_kernel : Cert.quiescent_Kernel := by
  intro m ρ _
  have h := (θ_run (Cert.KernelIdeal.defs (F := Bits)) _ _).mono
    (fun _ h => (⟨fun c => (h.1 c).1, h.2⟩ : _ ∧ _)) (run_main (F := Bits) m ρ)
  rw [← table_kernel] at h
  exact h

theorem frame_ideal : Cert.quiescent_KernelIdeal := fun m ρ _ =>
  (θ_run Cert.KernelIdeal.defs _ _).mono (fun _ h => ⟨fun c => (h.1 c).1, h.2⟩) (run_main (F := Ideal) m ρ)

/-- The reference is straight-line host code without a semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdealProof

end
-- ==== Proof.Softmax.lean ====
/-
# Sums of exponentials over the extended reals

The scalar mathematics of both programs: a running maximum only rescales the sums of one row, the rescaling
distributes over the sums whatever the values are, and it cancels in the quotient.
-/
module

public import Idealize.ShloMosaic.Lib.Pointwise

@[expose] public section

noncomputable section

namespace Cert.Attention

open Idealize.ShloMosaic

theorem exp_coe (r : ℝ) : Ideal.exp (r : EReal) = (Real.exp r : EReal) := rfl
theorem exp_bot : Ideal.exp ⊥ = 0 := rfl

/-- A nonnegative real factor distributes over a sum of extended reals. -/
theorem mul_sum_real {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih,
      EReal.left_distrib_of_nonneg_of_ne_top (by exact_mod_cast hc) (EReal.coe_ne_top c)]

theorem mul_add_real (c : ℝ) (hc : 0 ≤ c) (a b : EReal) : (c : EReal) * (a + b) = c * a + c * b :=
  EReal.left_distrib_of_nonneg_of_ne_top (by exact_mod_cast hc) (EReal.coe_ne_top c) a b

/-- A sum of reals is a real. -/
theorem sum_real {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The greatest of finitely many reals, at least one, is a real. -/
theorem fold_max_real {ι : Type*} (t : Finset ι) (ht : t.Nonempty) (f : ι → EReal) (hf : ∀ i, ∃ r : ℝ, f i = r) :
    ∃ r : ℝ, t.fold max ⊥ f = r := by
  classical
  induction t using Finset.induction_on with
  | empty => exact absurd ht Finset.not_nonempty_empty
  | insert a t ha ih =>
    rw [Finset.fold_insert ha]
    obtain ⟨x, hx⟩ := hf a
    rcases t.eq_empty_or_nonempty with rfl | h
    · exact ⟨x, by simp [hx]⟩
    · obtain ⟨y, hy⟩ := ih h
      rw [hx, hy]
      rcases max_choice (x : EReal) (y : EReal) with e | e
      · exact ⟨x, e⟩
      · exact ⟨y, e⟩

theorem max_real (a b : EReal) (ha : a = ⊥ ∨ ∃ r : ℝ, a = r) (hb : ∃ r : ℝ, b = r) : ∃ r : ℝ, max a b = r := by
  obtain ⟨y, rfl⟩ := hb
  rcases ha with rfl | ⟨x, rfl⟩
  · exact ⟨y, by simp⟩
  · rcases max_choice (x : EReal) (y : EReal) with e | e
    · exact ⟨x, e⟩
    · exact ⟨y, e⟩

/-- Subtracting the maximum `μ` in the exponent is the factor `exp (-μ)`. -/
theorem exp_sub (s : EReal) (hs : ∃ r : ℝ, s = r) (μ : ℝ) :
    Ideal.exp (s - (μ : EReal)) = (Real.exp (-μ) : EReal) * Ideal.exp s := by
  obtain ⟨r, rfl⟩ := hs
  rw [← EReal.coe_sub, exp_coe, exp_coe, ← EReal.coe_mul, ← Real.exp_add]
  congr 2; ring

/-- The scaled sums of the chunks so far: nothing before the first chunk, the factor `exp (-μ)` after it. -/
def Scaled (m a A : EReal) : Prop := (m = ⊥ ∧ a = 0 ∧ A = 0) ∨ ∃ μ : ℝ, m = μ ∧ a = (Real.exp (-μ) : EReal) * A

/-- A further chunk, whose terms carry the factor of the new maximum. -/
theorem Scaled.step {m a A : EReal} (h : Scaled m a A) {m' : EReal} {μ : ℝ} (hm : m' = μ) {b B : EReal}
    (hb : b = (Real.exp (-μ) : EReal) * B) : Scaled m' (a * Ideal.exp (m - m') + b) (A + B) := by
  refine Or.inr ⟨μ, hm, ?_⟩
  subst hm hb
  rw [mul_add_real _ (Real.exp_nonneg _)]
  congr 1
  rcases h with ⟨rfl, rfl, rfl⟩ | ⟨ν, rfl, rfl⟩
  · simp
  · rw [exp_sub _ ⟨ν, rfl⟩, exp_coe]
    have : (Real.exp (-ν) : EReal) * (Real.exp ν : EReal) = 1 := by
      rw [← EReal.coe_mul, ← Real.exp_add]; simp
    calc (Real.exp (-ν) : EReal) * A * ((Real.exp (-μ) : EReal) * (Real.exp ν : EReal))
        = (Real.exp (-μ) : EReal) * A * ((Real.exp (-ν) : EReal) * (Real.exp ν : EReal)) := by ac_rfl
      _ = _ := by rw [this, mul_one]

/-- The common factor cancels in the quotient of the sums. -/
theorem scaled_quotient {m a A l : EReal} {L : ℝ} (hL : 0 < L) (hm : m ≠ ⊥) (ha : Scaled m a A) (hl : Scaled m l (L : EReal)) :
    Ideal.div a l = A * (L : EReal)⁻¹ := by
  rcases ha with ⟨rfl, _⟩ | ⟨μ, rfl, rfl⟩
  · exact absurd rfl hm
  rcases hl with ⟨h, _⟩ | ⟨ν, h, rfl⟩
  · exact absurd h (EReal.coe_ne_bot μ)
  obtain rfl : μ = ν := EReal.coe_injective h
  have hp : 0 < Real.exp (-μ) := Real.exp_pos _
  rw [← EReal.coe_mul, Ideal.div, if_neg (by exact_mod_cast (mul_pos hp hL).ne'), ← EReal.coe_inv, ← EReal.coe_inv,
    mul_inv, EReal.coe_mul]
  have : (Real.exp (-μ) : EReal) * ((Real.exp (-μ))⁻¹ : ℝ) = 1 := by
    rw [← EReal.coe_mul, mul_inv_cancel₀ hp.ne']; rfl
  calc (Real.exp (-μ) : EReal) * A * (((Real.exp (-μ))⁻¹ : ℝ) * (L⁻¹ : ℝ))
      = A * (L⁻¹ : ℝ) * ((Real.exp (-μ) : EReal) * ((Real.exp (-μ))⁻¹ : ℝ)) := by ac_rfl
    _ = _ := by rw [this, mul_one]

end Cert.Attention

end
-- ==== Proof.Attention.lean ====
/-
# Attention at an element

The formula both programs compute: the scores, their exponentials, the sums over the positions of a quarter,
the quotient of the sums over all quarters, and the product with the output weights.
-/
module

public import proofs.«01_k».proof.Proof.Softmax

@[expose] public section

noncomputable section

namespace Cert.Attention

open Idealize.ShloMosaic Idealize.ShloMosaic.Pointwise

/-- Matrices, and batches of matrices over all positions. -/
abbrev Mat := (⟨2, ![1024, 1024]⟩ : Shape).Idx → EReal
abbrev Seq := (⟨3, ![4, 4096, 1024]⟩ : Shape).Idx → EReal

def row (b : Fin 4) (i : Fin 256) : Fin 1024 := ⟨b * 256 + i, by omega⟩
def col (h : Fin 8) (d : Fin 128) : Fin 1024 := ⟨h * 128 + d, by omega⟩
def pos (n : Fin 4) (j : Fin 1024) : Fin 4096 := ⟨1024 * n + j, by omega⟩
def batch (r : Fin 1024) : Fin 4 := ⟨r / 256, by omega⟩
def query (r : Fin 1024) : Fin 256 := ⟨r % 256, by omega⟩
def headOf (c : Fin 1024) : Fin 8 := ⟨c / 128, by omega⟩
def chan (c : Fin 1024) : Fin 128 := ⟨c % 128, by omega⟩

variable (x wq wo : Mat) (k v : Seq)

def qE (r c : Fin 1024) : EReal := ∑ e : Fin 1024, x (ix2 r e) * wq (ix2 e c)

/-- The scaled score of position `j` of quarter `n`. -/
def sE (n b : Fin 4) (h : Fin 8) (i : Fin 256) (j : Fin 1024) : EReal :=
  (∑ d : Fin 128, qE x wq (row b i) (col h d) * k (ix3 b (pos n j) (col h d))) * Ideal.ofBits .f32 0x3DB504F3#32

/-- The sums over a quarter of the exponentials, alone and against the values. -/
def lE (n b : Fin 4) (h : Fin 8) (i : Fin 256) : EReal := ∑ j : Fin 1024, Ideal.exp (sE x wq k n b h i j)
def oE (n b : Fin 4) (h : Fin 8) (i : Fin 256) (d : Fin 128) : EReal :=
  ∑ j : Fin 1024, Ideal.exp (sE x wq k n b h i j) * v (ix3 b (pos n j) (col h d))

/-- The attention at a row and a column, and the output. -/
def att (r c : Fin 1024) : EReal :=
  (∑ n : Fin 4, oE x wq k v n (batch r) (headOf c) (query r) (chan c)) * (∑ n : Fin 4, lE x wq k n (batch r) (headOf c) (query r))⁻¹
def outE (r c : Fin 1024) : EReal := ∑ e : Fin 1024, att x wq k v r e * wo (ix2 e c)

/-- All elements are real numbers. -/
def Reals {ι : Type} (f : ι → EReal) : Prop := ∀ i, ∃ r : ℝ, f i = r

theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

theorem real_sum {ι : Type} [Fintype ι] (f : ι → EReal) (hf : Reals f) : ∃ r : ℝ, ∑ i, f i = r := by
  choose g hg using hf
  exact ⟨∑ i, g i, by rw [← sum_real]; exact Finset.sum_congr rfl fun i _ => hg i⟩

theorem scale_real : ∃ r : ℝ, Ideal.ofBits .f32 0x3DB504F3#32 = r := by
  show ∃ r : ℝ, Ideal.ieee 8 23 (0x3DB504F3#32) = r
  unfold Ideal.ieee
  dsimp only
  rw [if_neg (by decide), if_neg (by decide)]
  exact ⟨_, rfl⟩

theorem neg_inf : Ideal.ofBits .f32 0xFF800000#32 = ⊥ := by
  show Ideal.ieee 8 23 (0xFF800000#32) = ⊥
  unfold Ideal.ieee
  dsimp only
  rw [if_pos (by decide), if_pos (by decide), if_pos (by decide)]

theorem pos_inf : Ideal.ofBits .f32 0x7F800000#32 = ⊤ := by
  show Ideal.ieee 8 23 (0x7F800000#32) = ⊤
  unfold Ideal.ieee
  dsimp only
  rw [if_pos (by decide), if_pos (by decide), if_neg (by decide)]

variable {x wq k}

theorem sE_real (hx : Reals x) (hw : Reals wq) (hk : Reals k) (n b h i j) : ∃ r : ℝ, sE x wq k n b h i j = r :=
  real_mul (real_sum _ fun _ => real_mul (real_sum _ fun _ => real_mul (hx _) (hw _)) (hk _)) scale_real

/-- The denominators are positive real numbers. -/
theorem lE_real (hx : Reals x) (hw : Reals wq) (hk : Reals k) (b h i) :
    ∃ L : ℝ, 0 < L ∧ ∑ n : Fin 4, lE x wq k n b h i = (L : EReal) := by
  choose s hs using fun n j => sE_real hx hw hk n b h i j
  refine ⟨∑ n : Fin 4, ∑ j : Fin 1024, Real.exp (s n j), Finset.sum_pos (fun n _ => Finset.sum_pos (fun j _ => Real.exp_pos _) ⟨0, Finset.mem_univ _⟩) ⟨0, Finset.mem_univ _⟩, ?_⟩
  rw [← sum_real]
  refine Finset.sum_congr rfl fun n _ => ?_
  rw [← sum_real]
  exact Finset.sum_congr rfl fun j _ => by rw [hs, exp_coe]

end Cert.Attention

end
-- ==== Proof.Value.lean ====
/-
# The kernel's result at an element

The four devices' sums add up, in either order of the two exchanges, to the sums over all quarters of the keys.
-/
module

public import proofs.«01_k».proof.Proof.Contents
public import proofs.«01_k».proof.Proof.Attention

@[expose] public section

set_option maxRecDepth 16384

noncomputable section

namespace Cert.KernelIdealProof

open Cert.KernelIdeal Cert.KernelIdeal.Gen Idealize.ShloMosaic Idealize.ShloMosaic.TcCoe Idealize.ShloMosaic.Pointwise
open Cert.Attention

/-! ## The payloads at an element -/

theorem pQ_apply (x wq : Vec Ideal S1024x1024 .f32) (r c : Fin 1024) : pQ x wq (ix2 r c) = qE x wq r c := by
  pointwise [k0_pay1, k0_pay2]
  rfl

theorem pO_apply (q : Vec Ideal S256x128 .bf16) (k v : Vec Ideal S1x1024x128 .f32) (i : Fin 256) (d : Fin 128) :
    pO q k v (ix3 0 i d) = ∑ j : Fin 1024, Ideal.exp ((∑ e : Fin 128, q (ix2 i e) * k (ix3 0 j e)) * Ideal.ofBits .f32 0x3DB504F3#32) * v (ix3 0 j d) := by
  pointwise [k0_pay4, k0_pay5]

theorem pL_apply (q : Vec Ideal S256x128 .bf16) (k : Vec Ideal S1x1024x128 .f32) (i : Fin 256) :
    pL q k (ix3 0 i 0) = ∑ j : Fin 1024, Ideal.exp ((∑ e : Fin 128, q (ix2 i e) * k (ix3 0 j e)) * Ideal.ofBits .f32 0x3DB504F3#32) := by
  pointwise [k0_pay4, k0_pay6]

theorem pML_apply (a b : Vec Ideal S1x256x128 .f32) (i : Fin 256) (d : Fin 128) :
    pML a b (ix3 0 i d) = (a (ix3 0 i d) + b (ix3 0 i d) : EReal) := by
  pointwise [k0_pay129]

theorem pMO_apply (a b : Vec Ideal S1x256x1024 .bf16) (i : Fin 256) (d : Fin 1024) :
    pMO a b (ix3 0 i d) = (a (ix3 0 i d) + b (ix3 0 i d) : EReal) := by
  pointwise [k0_pay130]

theorem pInv_apply (a b : Vec Ideal S1x256x128 .f32) (i : Fin 256) (d : Fin 128) (L : ℝ) (hL : 0 < L)
    (h : (a (ix3 0 i d) + b (ix3 0 i d) : EReal) = L) : pInv a b (ix2 i d) = (L : EReal)⁻¹ := by
  have hL' : (L : EReal) ≠ 0 := by exact_mod_cast hL.ne'
  pointwise [k0_pay134]
  rw [h, if_neg hL', Ideal.div, if_neg hL', one_mul]

theorem pTot_apply (a b : Vec Ideal S1x256x1024 .bf16) (i : Fin 256) (d : Fin 1024) :
    pTot a b (ix2 i d) = (a (ix3 0 i d) + b (ix3 0 i d) : EReal) := by
  pointwise [k0_pay135]

theorem pAcc_apply (b : Fin 4) (h : Fin 8) (inv : FVec Ideal S256x128 .f32) (tot : FVec Ideal S256x1024 .f32) (i : Fin 256) (d : Fin 128) :
    pAcc b h inv tot (ix2 i d) = (tot (ix2 i ⟨128 * h.val + d.val, by omega⟩) * inv (ix2 i ⟨8 * b.val + h.val, by omega⟩) : EReal) := by
  pointwise [pAcc]

theorem pOut_apply (a : Vec Ideal S256x1024 .f32) (wo : Vec Ideal S1024x1024 .f32) (i : Fin 256) (d : Fin 1024) :
    pOut a wo (ix2 i d) = ∑ e : Fin 1024, (a (ix2 i e) * wo (ix2 e d) : EReal) := by
  pointwise [k0_pay148]

/-! ## Indices -/

theorem rQ_emb (b : Fin 4) (h : Fin 8) (i : Fin 256) (d : Fin 128) : (rQ b h).emb (ix2 i d) = ix2 (row b i) (col h d) := by
  funext a
  apply Fin.ext
  fin_cases a
  · show 256 * b.val + 1 * i.val = b.val * 256 + i.val; omega
  · show 128 * h.val + 1 * d.val = h.val * 128 + d.val; omega

theorem rK4_emb (b : Fin 4) (h : Fin 8) (j : Fin 1024) (d : Fin 128) : (rK4 b h).emb (ix3 0 j d) = ix3 b j (col h d) := by
  funext a
  apply Fin.ext
  fin_cases a
  · show b.val + 1 * 0 = b.val; omega
  · show 0 + 1 * j.val = j.val; omega
  · show 128 * h.val + 1 * d.val = h.val * 128 + d.val; omega

theorem rRow_emb (b : Fin 4) (i : Fin 256) (e : Fin 1024) : (rRow b).emb (ix2 i e) = ix2 (row b i) e := by
  funext a
  apply Fin.ext
  fin_cases a
  · show 256 * b.val + 1 * i.val = b.val * 256 + i.val; omega
  · show 0 + 1 * e.val = e.val; omega

theorem ixH_eq (i : Fin 256) (d : Fin 128) : ixH i d = ix3 0 i d := by
  funext a
  apply Fin.ext
  fin_cases a
  · rfl
  · exact Nat.mod_eq_of_lt i.isLt
  · exact Nat.mod_eq_of_lt d.isLt

theorem ixD_eq (i : Fin 256) : ixD i = ix3 0 i 0 := by
  funext a
  apply Fin.ext
  fin_cases a
  · rfl
  · exact Nat.mod_eq_of_lt i.isLt
  · rfl

theorem ixS_eq (i : Fin 256) (d : Fin 1024) : ixS i d = ix3 0 i d := by
  funext a
  apply Fin.ext
  fin_cases a
  · rfl
  · exact Nat.mod_eq_of_lt i.isLt
  · exact Nat.mod_eq_of_lt d.isLt

theorem ixT_eq (i : Fin 256) (d : Fin 128) : ixT i d = ix2 i d := by
  funext a
  apply Fin.ext
  fin_cases a
  · exact Nat.mod_eq_of_lt i.isLt
  · exact Nat.mod_eq_of_lt d.isLt

theorem ixR_eq (i : Fin 256) (d : Fin 1024) : ixR i d = ix2 i d := by
  funext a
  apply Fin.ext
  fin_cases a
  · exact Nat.mod_eq_of_lt i.isLt
  · exact Nat.mod_eq_of_lt d.isLt

theorem rb_eq (r : Fin 1024) : rb r = batch r := Fin.ext (Nat.mod_eq_of_lt (by show r.val / 256 < 4; omega))
theorem ch_eq (e : Fin 1024) : ch e = headOf e := Fin.ext (Nat.mod_eq_of_lt (by show e.val / 128 < 8; omega))
theorem lb_eq (b : Fin 4) (h : Fin 8) : lb (8 * b.val + h.val) = b := Fin.ext (by show (8 * b.val + h.val) / 8 % 4 = b.val; omega)
theorem lh_eq (b : Fin 4) (h : Fin 8) : lh (8 * b.val + h.val) = h := Fin.ext (by show (8 * b.val + h.val) % 8 = h.val; omega)
theorem row_batch (r : Fin 1024) : row (batch r) (query r) = r := Fin.ext (by show r.val / 256 * 256 + r.val % 256 = r.val; omega)
theorem batch_row (b : Fin 4) (i : Fin 256) : batch (row b i) = b := Fin.ext (by show (b.val * 256 + i.val) / 256 = b.val; omega)
theorem query_row (b : Fin 4) (i : Fin 256) : query (row b i) = i := Fin.ext (by show (b.val * 256 + i.val) % 256 = i.val; omega)

/-- A device, the other one of each of its two pairs, and the fourth: all four. -/
theorem sum_devices (f : Dev nD → EReal) (c : Dev nD) : f c + f (p1 c) + (f (p2 c) + f (p1 (p2 c))) = ∑ n : Fin 4, f n := by
  rw [Fin.sum_univ_four]
  fin_cases c
  · show f 0 + f 3 + (f 1 + f 2) = _; ac_rfl
  · show f 1 + f 2 + (f 0 + f 3) = _; ac_rfl
  · show f 2 + f 1 + (f 3 + f 0) = _; ac_rfl
  · show f 3 + f 0 + (f 2 + f 1) = _; ac_rfl

/-! ## The run's contents -/

/-- The devices' arguments are `x`, `wq` and `wo` on each, and the quarters of `k` and of `v`. -/
structure Parts (A : Args Ideal) (x wq wo : Mat) (k v : Seq) : Prop where
  x : ∀ c, A.x c = x
  wq : ∀ c, A.wq c = wq
  wo : ∀ c, A.wo c = wo
  k : ∀ (c : Dev nD) (b : Fin 4) (j e : Fin 1024), A.k c (ix3 b j e) = k (ix3 b (pos c j) e)
  v : ∀ (c : Dev nD) (b : Fin 4) (j e : Fin 1024), A.v c (ix3 b j e) = v (ix3 b (pos c j) e)

variable {A : Args Ideal} {x wq wo : Mat} {k v : Seq} (P : Parts A x wq wo k v) (c : Dev nD)

include P

theorem qB_apply (b : Fin 4) (h : Fin 8) (i : Fin 256) (d : Fin 128) : qB A c b h (ix2 i d) = qE x wq (row b i) (col h d) := by
  unfold qB qA
  rw [rQ_emb, pQ_apply, P.x, P.wq]

theorem kB_apply (b : Fin 4) (h : Fin 8) (j : Fin 1024) (d : Fin 128) : kB A c b h (ix3 0 j d) = k (ix3 b (pos c j) (col h d)) := by
  unfold kB
  rw [rK4_emb, P.k]

theorem vB_apply (b : Fin 4) (h : Fin 8) (j : Fin 1024) (d : Fin 128) : vB A c b h (ix3 0 j d) = v (ix3 b (pos c j) (col h d)) := by
  unfold vB
  rw [rK4_emb, P.v]

theorem oB_apply (b : Fin 4) (h : Fin 8) (i : Fin 256) (d : Fin 128) : oB A c b h (ix3 0 i d) = oE x wq k v c b h i d := by
  unfold oB
  rw [pO_apply]
  simp only [qB_apply P, kB_apply P, vB_apply P]
  rfl

theorem lB_apply (b : Fin 4) (h : Fin 8) (i : Fin 256) : lB A c b h (ix3 0 i 0) = lE x wq k c b h i := by
  unfold lB
  rw [pL_apply]
  simp only [qB_apply P, kB_apply P]
  rfl

theorem oLn_apply (r e : Fin 1024) : oLn A c r e = oE x wq k v c (batch r) (headOf e) (query r) (chan e) := by
  unfold oLn
  rw [rb_eq, ch_eq]
  exact (congrArg _ (ixH_eq (query r) (chan e))).trans (oB_apply P c _ _ _ _)

theorem lLn_apply (b : Fin 4) (h : Fin 8) (i : Fin 256) : lLn A c i (8 * b.val + h.val) = lE x wq k c b h i := by
  unfold lLn
  rw [if_pos (by omega), lb_eq, lh_eq, ixD_eq, lB_apply P]

theorem oMn_apply (r e : Fin 1024) : oMn A c r e = (oE x wq k v c (batch r) (headOf e) (query r) (chan e)
    + oE x wq k v (p1 c) (batch r) (headOf e) (query r) (chan e) : EReal) := by
  have hr : 256 * (rb r).val + (query r).val = r.val := by
    show 256 * (r.val / 256 % 4) + r.val % 256 = r.val; omega
  unfold oMn
  refine (congrArg _ (ixS_eq (query r) e)).trans ((pMO_apply _ _ _ _).trans ?_)
  show (oLn A c (256 * (rb r).val + (query r).val) e + oLn A (p1 c) (256 * (rb r).val + (query r).val) e : EReal) = _
  rw [hr, oLn_apply P, oLn_apply P]

theorem lMn_apply (b : Fin 4) (h : Fin 8) (i : Fin 256) :
    lMn A c i (8 * b.val + h.val) = (lE x wq k c b h i + lE x wq k (p1 c) b h i : EReal) := by
  unfold lMn
  refine (congrArg _ (ixH_eq i ⟨8 * b.val + h.val, by omega⟩)).trans ((pML_apply _ _ _ _).trans ?_)
  show (lLn A c i (8 * b.val + h.val) + lLn A (p1 c) i (8 * b.val + h.val) : EReal) = _
  rw [lLn_apply P, lLn_apply P]

/-- The reciprocal of the sum over all quarters. -/
theorem invA_apply (hx : Reals x) (hw : Reals wq) (hk : Reals k) (b : Fin 4) (h : Fin 8) (i : Fin 256) :
    invA A c (ix2 i ⟨8 * b.val + h.val, by omega⟩) = (∑ n : Fin 4, lE x wq k n b h i)⁻¹ := by
  obtain ⟨L, hL, hl⟩ := lE_real hx hw hk b h i
  rw [hl]
  refine pInv_apply _ _ _ _ L hL ?_
  show (lMn A c i (8 * b.val + h.val) + lMn A (p2 c) i (8 * b.val + h.val) : EReal) = L
  rw [lMn_apply P, lMn_apply P, ← hl]
  exact sum_devices (fun n => lE x wq k n b h i) c

theorem totA_apply (r e : Fin 1024) :
    totA A c (batch r) (ix2 (query r) e) = ∑ n : Fin 4, oE x wq k v n (batch r) (headOf e) (query r) (chan e) := by
  have hr : 256 * (batch r).val + (query r).val = r.val := by
    show 256 * (r.val / 256) + r.val % 256 = r.val; omega
  unfold totA
  rw [pTot_apply]
  show (oMn A c (256 * (batch r).val + (query r).val) e + oMn A (p2 c) (256 * (batch r).val + (query r).val) e : EReal) = _
  rw [hr, oMn_apply P, oMn_apply P]
  exact sum_devices (fun n => oE x wq k v n (batch r) (headOf e) (query r) (chan e)) c

theorem accA_apply (hx : Reals x) (hw : Reals wq) (hk : Reals k) (r e : Fin 1024) : accA A c (ix2 r e) = att x wq k v r e := by
  have he : (⟨128 * (headOf e).val + (chan e).val, by omega⟩ : Fin 1024) = e :=
    Fin.ext (by show 128 * (e.val / 128) + e.val % 128 = e.val; omega)
  show pAcc (rb r) (ch e) (invA A c) (totA A c (rb r)) (ixT (query r) (chan e)) = _
  rw [ixT_eq, rb_eq, ch_eq, pAcc_apply, he, totA_apply P, invA_apply P c hx hw hk]
  rfl

/-- The kernel's result is the attention's output. -/
theorem outA_apply (hx : Reals x) (hw : Reals wq) (hk : Reals k) (r n : Fin 1024) : outA A c (ix2 r n) = outE x wq wo k v r n := by
  show pOut (aRow A c (rb r)) (A.wo c) (ixR (query r) n) = _
  rw [ixR_eq, pOut_apply, P.wo]
  unfold outE
  refine Finset.sum_congr rfl fun e _ => ?_
  congr 1
  unfold aRow
  rw [rRow_emb, rb_eq, row_batch, accA_apply P c hx hw hk]

end Cert.KernelIdealProof

end
-- ==== Proof.Reference.lean ====
/-
# The reference as steps of an online softmax

The reference's result is four steps, one for each quarter of the keys, and then the quotient and the output
weights. Each step is read at an element.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdealProof

open Cert.ReferenceIdeal Cert.ReferenceIdeal.Gen Idealize.ShloMosaic Idealize.ShloMosaic.TcCoe
open Cert.Attention

abbrev A (s : Shape) := FVec Ideal s .f32

def qR (x wq : A S1024x1024) : A S4x256x8x128 :=
  shapeCast _ (Host.dotGeneral dot_S4x256x1024_S1024x1024_S4x256x1024_2_0_01_1_n_n none (shapeCast _ x shapeCasts_S1024x1024_S4x256x1024) wq) shapeCasts_S4x256x1024_S4x256x8x128

/-- The heads of the keys (the values) of all positions. -/
def hd (k : A S4x4096x1024) : A S4x4096x8x128 := shapeCast _ k shapeCasts_S4x4096x1024_S4x4096x8x128

/-- The scaled scores of a quarter of the keys. -/
def sR (q : A S4x256x8x128) (kj : A S4x1024x8x128) : A S4x8x256x1024 :=
  mulf (Host.dotGeneral dot_S4x256x8x128_S4x1024x8x128_S4x8x256x1024_3_3_1_1_02_02 none q kj)
    (broadcastInDim S4x8x256x1024 ![] bcast_S_S4x8x256x1024 (constant S_ .f32 0x3DB504F3#32))

/-- The running maximum after a quarter with the scores `s`. -/
def mR (m : A S4x8x256x1) (s : A S4x8x256x1024) : A S4x8x256x1 :=
  maximumf m (broadcastInDim S4x8x256x1 ![0, 1, 2] bcast_S4x8x256_S4x8x256x1_0_1_2
    (Host.reduce FloatOps.maximumf s (constant S_ .f32 0xFF800000#32) reducesTo_S4x8x256x1024_S4x8x256_d3 h_S_))

def pR (m' : A S4x8x256x1) (s : A S4x8x256x1024) : A S4x8x256x1024 :=
  Host.exp (subf s (broadcastInDim S4x8x256x1024 ![0, 1, 2, 3] bcast_S4x8x256x1_S4x8x256x1024_0_1_2_3 m'))

def lR (m m' l : A S4x8x256x1) (s : A S4x8x256x1024) : A S4x8x256x1 :=
  addf (mulf l (Host.exp (subf m m'))) (broadcastInDim S4x8x256x1 ![0, 1, 2] bcast_S4x8x256_S4x8x256x1_0_1_2
    (Host.reduceAdd (pR m' s) (constant S_ .f32 0x00000000#32) reducesTo_S4x8x256x1024_S4x8x256_d3 h_S_))

def oR (m m' : A S4x8x256x1) (o : A S4x256x8x128) (s : A S4x8x256x1024) (vj : A S4x1024x8x128) : A S4x256x8x128 :=
  addf (mulf o (broadcastInDim S4x256x8x128 ![0, 1, 2, 3] bcast_S4x256x8x1_S4x256x8x128_0_1_2_3
      (transpose S4x256x8x1 [0, 2, 1, 3] (Host.exp (subf m m')) transposes_S4x8x256x1_S4x256x8x1_0_2_1_3)))
    (transpose S4x256x8x128 [0, 3, 1, 2] (Host.dotGeneral dot_S4x1024x8x128_S4x8x256x1024_S4x8x128x256_1_3_3_2_02_01 none vj (pR m' s)) transposes_S4x8x128x256_S4x256x8x128_0_3_1_2)

def m0 : A S4x8x256x1 := broadcastInDim S4x8x256x1 ![] bcast_S_S4x8x256x1 (constant S_ .f32 0xFF800000#32)
def l0 : A S4x8x256x1 := broadcastInDim S4x8x256x1 ![] bcast_S_S4x8x256x1 (constant S_ .f32 0x00000000#32)
def o0 : A S4x256x8x128 := broadcastInDim S4x256x8x128 ![] bcast_S_S4x256x8x128 (constant S_ .f32 0x00000000#32)

/-- The quotient and the product with the output weights. -/
def finR (o : A S4x256x8x128) (l : A S4x8x256x1) (wo : A S1024x1024) : A S1024x1024 :=
  shapeCast _ (Host.dotGeneral dot_S4x256x1024_S1024x1024_S4x256x1024_2_0_01_1_n_n none
    (shapeCast _ (Host.divf o (broadcastInDim S4x256x8x128 ![0, 1, 2, 3] bcast_S4x256x8x1_S4x256x8x128_0_1_2_3
      (transpose S4x256x8x1 [0, 2, 1, 3] l transposes_S4x8x256x1_S4x256x8x1_0_2_1_3))) shapeCasts_S4x256x8x128_S4x256x1024) wo)
    shapeCasts_S4x256x1024_S1024x1024

theorem slices_quarter (n : Fin 4) : S4x4096x8x128.Slices ![0, 1024 * n.val, 0, 0] S4x1024x8x128 := by revert n; decide

/-- Quarter `n` of the positions. -/
def quarter (n : Fin 4) (k : A S4x4096x8x128) : A S4x1024x8x128 :=
  extractStridedSlice S4x1024x8x128 ![0, 1024 * n.val, 0, 0] k (slices_quarter n)

/-- What the steps carry: the maximum, the denominators and the sums. -/
structure St where
  m : A S4x8x256x1
  l : A S4x8x256x1
  o : A S4x256x8x128

def St.next (t : St) (q : A S4x256x8x128) (kj vj : A S4x1024x8x128) : St :=
  ⟨mR t.m (sR q kj), lR t.m (mR t.m (sR q kj)) t.l (sR q kj), oR t.m (mR t.m (sR q kj)) t.o (sR q kj) vj⟩

def st (q : A S4x256x8x128) (k v : A S4x4096x8x128) (n : Fin 4) (t : St) : St := t.next q (quarter n k) (quarter n v)

def steps (q : A S4x256x8x128) (k v : A S4x4096x8x128) : St :=
  st q k v 3 (st q k v 2 (st q k v 1 (st q k v 0 ⟨m0, l0, o0⟩)))

def refR (x wq wo : A S1024x1024) (k v : A S4x4096x1024) : A S1024x1024 :=
  finR (steps (qR x wq) (hd k) (hd v)).o (steps (qR x wq) (hd k) (hd v)).l wo

theorem res_eq (m : (ℓ : Loc nD τ sig) → Buf (Elt Ideal) ℓ) (c : Dev nD) :
    Cert.ReferenceIdeal.Value.res_main_v105 (F := Ideal) m c
      = refR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v105
  rfl

end Cert.ReferenceIdealProof

end
-- ==== Proof.RefValue.lean ====
/-
# The reference's result at an element
-/
module

public import proofs.«01_k».proof.Proof.Reference
public import proofs.«01_k».proof.Proof.Attention

@[expose] public section

set_option maxRecDepth 16384

noncomputable section

namespace Cert.ReferenceIdealProof

open Cert.ReferenceIdeal Cert.ReferenceIdeal.Gen Idealize.ShloMosaic Idealize.ShloMosaic.TcCoe Idealize.ShloMosaic.Pointwise
open Cert.Attention

theorem qR_apply (x wq : A S1024x1024) (b : Fin 4) (i : Fin 256) (h : Fin 8) (d : Fin 128) :
    qR x wq (ix4 b i h d) = qE x wq (row b i) (col h d) := by
  pointwise [qR]
  rfl

theorem quarter_apply (k : A S4x4096x1024) (b n : Fin 4) (j : Fin 1024) (h : Fin 8) (d : Fin 128) :
    quarter n (hd k) (ix4 b j h d) = k (ix3 b (pos n j) (col h d)) := by
  pointwise [hd, quarter]
  rfl

theorem sR_apply (q : A S4x256x8x128) (kj : A S4x1024x8x128) (b : Fin 4) (i : Fin 256) (h : Fin 8) (j : Fin 1024) :
    sR q kj (ix4 b h i j) = (∑ d : Fin 128, q (ix4 b i h d) * kj (ix4 b j h d)) * Ideal.ofBits .f32 0x3DB504F3#32 := by
  pointwise [sR]

theorem mR_apply (m : A S4x8x256x1) (t : A S4x8x256) (b : Fin 4) (i : Fin 256) (h : Fin 8) :
    maximumf m (broadcastInDim S4x8x256x1 ![0, 1, 2] bcast_S4x8x256_S4x8x256x1_0_1_2 t) (ix4 b h i 0)
      = max (m (ix4 b h i 0)) (t (ix3 b h i)) := by
  pointwise

theorem pR_apply (m' : A S4x8x256x1) (s : A S4x8x256x1024) (b : Fin 4) (i : Fin 256) (h : Fin 8) (j : Fin 1024) :
    pR m' s (ix4 b h i j) = Ideal.exp (s (ix4 b h i j) - m' (ix4 b h i 0)) := by
  pointwise [pR]

theorem lR_apply (m m' l : A S4x8x256x1) (s : A S4x8x256x1024) (b : Fin 4) (i : Fin 256) (h : Fin 8) :
    lR m m' l s (ix4 b h i 0) = l (ix4 b h i 0) * Ideal.exp (m (ix4 b h i 0) - m' (ix4 b h i 0))
      + ∑ j : Fin 1024, Ideal.exp (s (ix4 b h i j) - m' (ix4 b h i 0)) := by
  pointwise [lR, pR]

theorem oR_apply (m m' : A S4x8x256x1) (o : A S4x256x8x128) (s : A S4x8x256x1024) (vj : A S4x1024x8x128)
    (b : Fin 4) (i : Fin 256) (h : Fin 8) (d : Fin 128) :
    oR m m' o s vj (ix4 b i h d) = o (ix4 b i h d) * Ideal.exp (m (ix4 b h i 0) - m' (ix4 b h i 0))
      + ∑ j : Fin 1024, vj (ix4 b j h d) * Ideal.exp (s (ix4 b h i j) - m' (ix4 b h i 0)) := by
  pointwise [oR, pR]

theorem finR_apply (l : A S4x8x256x1) (o : A S4x256x8x128) (wo : A S1024x1024) (r n : Fin 1024) :
    finR o l wo (ix2 r n) = ∑ e : Fin 1024, Ideal.div (o (ix4 (batch r) (query r) (headOf e) (chan e)))
      (l (ix4 (batch r) (headOf e) (query r) 0)) * wo (ix2 e n) := by
  pointwise [finR]
  rfl

theorem m0_apply (b : Fin 4) (i : Fin 256) (h : Fin 8) : m0 (ix4 b h i 0) = ⊥ := by
  pointwise [m0]
  exact neg_inf

theorem l0_apply (b : Fin 4) (i : Fin 256) (h : Fin 8) : l0 (ix4 b h i 0) = 0 := by
  pointwise [l0]

theorem o0_apply (b : Fin 4) (i : Fin 256) (h : Fin 8) (d : Fin 128) : o0 (ix4 b i h d) = 0 := by
  pointwise [o0]

/-! ## The steps -/

/-- The maximum over the last axis of real scores is real. -/
theorem max_scores_real {s t : Shape} {axes : List (Fin s.rank)} (x : s.Idx → EReal) (hx : Reals x) (h : s.ReducesTo axes t)
    (init : S_.Idx → EReal) (hi : ∀ i, init i = ⊥) (j : t.Idx) (i : s.Idx) (hij : h.drop i = j) :
    ∃ r : ℝ, Host.reduce (FloatOps.maximumf (F := Ideal) (φ := .f32)) x init h h_S_ j = r := by
  rw [Host.reduce_eq_fold, hi]
  exact fold_max_real _ ⟨i, Finset.mem_filter.2 ⟨Finset.mem_univ _, hij⟩⟩ x hx

theorem drop_last (b : Fin 4) (h : Fin 8) (i : Fin 256) (j : Fin 1024) :
    reducesTo_S4x8x256x1024_S4x8x256_d3.drop (ix4 b h i j) = ix3 b h i := by
  funext a
  apply Fin.ext
  fin_cases a
  · exact Shape.ReducesTo.drop_apply_val_of_eq reducesTo_S4x8x256x1024_S4x8x256_d3 (ix4 b h i j) 0 0
  · exact Shape.ReducesTo.drop_apply_val_of_eq reducesTo_S4x8x256x1024_S4x8x256_d3 (ix4 b h i j) 1 1
  · exact Shape.ReducesTo.drop_apply_val_of_eq reducesTo_S4x8x256x1024_S4x8x256_d3 (ix4 b h i j) 2 2

theorem mR_real (m : A S4x8x256x1) (s : A S4x8x256x1024) (hs : Reals s) (b : Fin 4) (h : Fin 8) (i : Fin 256)
    (hm : m (ix4 b h i 0) = ⊥ ∨ ∃ r : ℝ, m (ix4 b h i 0) = r) : ∃ r : ℝ, mR m s (ix4 b h i 0) = r := by
  unfold mR
  rw [mR_apply]
  exact max_real _ _ hm (max_scores_real s hs _ _ (fun _ => neg_inf) _ (ix4 b h i 0) (drop_last b h i 0))

/-- The state holds the sums `L` and `O` so far, up to the running maximum. -/
def Holds (t : St) (L : Fin 4 → Fin 8 → Fin 256 → EReal) (O : Fin 4 → Fin 8 → Fin 256 → Fin 128 → EReal) : Prop :=
  ∀ b h i, Scaled (t.m (ix4 b h i 0)) (t.l (ix4 b h i 0)) (L b h i)
    ∧ ∀ d, Scaled (t.m (ix4 b h i 0)) (t.o (ix4 b i h d)) (O b h i d)

theorem holds_zero : Holds ⟨m0, l0, o0⟩ (fun _ _ _ => 0) (fun _ _ _ _ => 0) := fun b h i =>
  ⟨.inl ⟨m0_apply b i h, l0_apply b i h, rfl⟩, fun d => .inl ⟨m0_apply b i h, o0_apply b i h d, rfl⟩⟩

theorem Scaled.bot_or_real {m a A : EReal} (h : Scaled m a A) : m = ⊥ ∨ ∃ r : ℝ, m = r :=
  h.elim (fun h => .inl h.1) fun ⟨μ, h, _⟩ => .inr ⟨μ, h⟩

theorem sum_exp_sub (μ : ℝ) (s : Fin 1024 → EReal) (hs : Reals s) :
    ∑ j, Ideal.exp (s j - (μ : EReal)) = (Real.exp (-μ) : EReal) * ∑ j, Ideal.exp (s j) := by
  rw [mul_sum_real _ _ (Real.exp_nonneg _)]
  exact Finset.sum_congr rfl fun j _ => exp_sub _ (hs j) μ

theorem sum_mul_exp_sub (μ : ℝ) (s v : Fin 1024 → EReal) (hs : Reals s) :
    ∑ j, v j * Ideal.exp (s j - (μ : EReal)) = (Real.exp (-μ) : EReal) * ∑ j, Ideal.exp (s j) * v j := by
  rw [mul_sum_real _ _ (Real.exp_nonneg _)]
  refine Finset.sum_congr rfl fun j _ => ?_
  rw [exp_sub _ (hs j) μ]
  ac_rfl

/-- One step adds the quarter's sums. -/
theorem Holds.next {t : St} {L O} (ht : Holds t L O) (q : A S4x256x8x128) (kj vj : A S4x1024x8x128) (hs : Reals (sR q kj)) :
    Holds (t.next q kj vj)
      (fun b h i => L b h i + ∑ j : Fin 1024, Ideal.exp (sR q kj (ix4 b h i j)))
      (fun b h i d => O b h i d + ∑ j : Fin 1024, Ideal.exp (sR q kj (ix4 b h i j)) * vj (ix4 b j h d)) := by
  intro b h i
  obtain ⟨μ, hμ⟩ := mR_real t.m (sR q kj) hs b h i (Scaled.bot_or_real (ht b h i).1)
  refine ⟨?_, fun d => ?_⟩
  · show Scaled (mR t.m (sR q kj) (ix4 b h i 0)) (lR _ _ _ _ (ix4 b h i 0)) _
    rw [lR_apply]
    refine (ht b h i).1.step hμ ?_
    rw [hμ]
    exact sum_exp_sub μ _ fun j => hs _
  · show Scaled (mR t.m (sR q kj) (ix4 b h i 0)) (oR _ _ _ _ _ (ix4 b i h d)) _
    rw [oR_apply]
    refine ((ht b h i).2 d).step hμ ?_
    rw [hμ]
    exact sum_mul_exp_sub μ _ _ fun j => hs _

variable (x wq wo : A S1024x1024) (k v : A S4x4096x1024)

theorem score_eq (n b : Fin 4) (h : Fin 8) (i : Fin 256) (j : Fin 1024) :
    sR (qR x wq) (quarter n (hd k)) (ix4 b h i j) = sE x wq k n b h i j := by
  rw [sR_apply]
  unfold sE
  congr 1
  exact Finset.sum_congr rfl fun d _ => by rw [qR_apply, quarter_apply]

variable {x wq k}

theorem holds_st (hx : Reals x) (hw : Reals wq) (hk : Reals k) (n : Fin 4) {t : St} {L O} (ht : Holds t L O) :
    Holds (st (qR x wq) (hd k) (hd v) n t) (fun b h i => L b h i + lE x wq k n b h i) (fun b h i d => O b h i d + oE x wq k v n b h i d) := by
  have hs : Reals (sR (qR x wq) (quarter n (hd k))) := fun j => by
    obtain ⟨b, h, i, j, rfl⟩ : ∃ (b : Fin 4) (h : Fin 8) (i : Fin 256) (l : Fin 1024), j = ix4 b h i l := ⟨_, _, _, _, eq_ix4 j⟩
    rw [score_eq]
    exact sE_real hx hw hk n b h i j
  have := ht.next (qR x wq) (quarter n (hd k)) (quarter n (hd v)) hs
  simp only [score_eq, quarter_apply] at this
  exact this

theorem holds_steps (hx : Reals x) (hw : Reals wq) (hk : Reals k) :
    Holds (steps (qR x wq) (hd k) (hd v)) (fun b h i => ∑ n : Fin 4, lE x wq k n b h i) (fun b h i d => ∑ n : Fin 4, oE x wq k v n b h i d) := by
  have := holds_st v hx hw hk 3 (holds_st v hx hw hk 2 (holds_st v hx hw hk 1 (holds_st v hx hw hk 0 holds_zero)))
  simp only [zero_add] at this
  simp only [Fin.sum_univ_four]
  exact this

theorem steps_bot (b : Fin 4) (h : Fin 8) (i : Fin 256) (hx : Reals x) (hw : Reals wq) (hk : Reals k) (L : ℝ) (hL : 0 < L)
    (hl : ∑ n : Fin 4, lE x wq k n b h i = (L : EReal)) : (steps (qR x wq) (hd k) (hd v)).m (ix4 b h i 0) ≠ ⊥ := by
  intro h0
  rcases (holds_steps v hx hw hk b h i).1 with ⟨_, _, e⟩ | ⟨μ, e, _⟩
  · exact absurd (EReal.coe_eq_zero.1 (hl.symm.trans e)) hL.ne'
  · exact EReal.coe_ne_bot μ (e.symm.trans h0)

/-- The reference's result is the attention's output. -/
theorem refR_apply (hx : Reals x) (hw : Reals wq) (hk : Reals k) (r n : Fin 1024) :
    refR x wq wo k v (ix2 r n) = outE x wq wo k v r n := by
  unfold refR
  rw [finR_apply]
  unfold outE att
  refine Finset.sum_congr rfl fun e _ => ?_
  congr 1
  obtain ⟨L, hL, hl⟩ := lE_real hx hw hk (batch r) (headOf e) (query r)
  have H := holds_steps v hx hw hk (batch r) (headOf e) (query r)
  have H1 := H.1
  beta_reduce at H1
  rw [hl] at H1 ⊢
  exact scaled_quotient hL (steps_bot v _ _ _ hx hw hk L hL hl) (H.2 (chan e)) H1

end Cert.ReferenceIdealProof

end
-- ==== Proof.Algebraic.lean ====
/-
# The value claim

Under finite scores both programs compute the attention's output on the same arrays.
-/
module

public import proofs.«01_k».proof.Defs
public import proofs.«01_k».proof.Proof.Gen.Pre_finite_scores_KernelIdeal
public import proofs.«01_k».proof.Proof.Launch
public import proofs.«01_k».proof.Proof.Value
public import proofs.«01_k».proof.Proof.RefValue
public import Idealize.ShloMosaic.Lib.ReduceAll
public import Idealize.ShloMosaic.Lib.Affine
public import Idealize.ShloMosaic.Lib.Layout

@[expose] public section

set_option maxRecDepth 16384

noncomputable section

namespace Cert.KernelIdealProof

open Idealize.ShloMosaic Idealize.ShloMosaic.TcCoe Idealize.SL.Sem Idealize.ShloMosaic.Pointwise
open Cert.Attention

/-- An extended real whose absolute value is below infinity is a real number. -/
theorem real_of_abs_lt (a : EReal) (h : max a (-a) < ⊤) : ∃ r : ℝ, a = r := by
  induction a using EReal.rec with
  | bot => simp at h
  | top => simp at h
  | coe r => exact ⟨r, rfl⟩

section Finite

open Cert.Pre_finite_scores_KernelIdeal Cert.Pre_finite_scores_KernelIdeal.Gen

instance : Subsingleton S_.Idx := ⟨fun a b => funext fun i => i.elim0⟩

/-- An array all of whose absolute values compare below infinity holds real numbers. -/
theorem reals_of_all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32))) (constantI S_ 1 1#1) hr h_S_ j = 1#1) :
    Reals x := by
  intro i
  have e := Host.reduce_andi_all _ _ hr h_S_ j h i
  refine real_of_abs_lt (x i) ?_
  have e' : Ideal.cmp .olt (max (x i) (-(x i))) (Ideal.ofBits .f32 0x7F800000#32) = 1#1 := e
  rw [pos_inf] at e'
  unfold Ideal.cmp at e'
  by_contra hn
  simp [hn] at e'

theorem reals_of_pre (x wq wo : FVec Ideal S1024x1024 .f32) (k v : FVec Ideal S4x1024x1024 .f32)
    (h : fn (F := Ideal) x wq wo k v = fun _ => 1#1) : Reals x ∧ Reals wq ∧ Reals k := by
  have e := congrFun h ix0
  obtain ⟨e1, e3⟩ := IntOp.andi_eq_one.1 e
  obtain ⟨e1, e2⟩ := IntOp.andi_eq_one.1 e1
  exact ⟨reals_of_all x _ _ _ e1, reals_of_all wq _ _ _ e2, reals_of_all k _ _ _ e3⟩

end Finite

/-- The block of a device, at an element. -/
theorem block_quarter (k : Seq) (c : Fin 4) (b : Fin 4) (j e : Fin 1024) :
    (Layout.block ⟨3, ![4, 1024, 1024]⟩ ⟨3, ![4, 4096, 1024]⟩ 1 4 c k) (ix3 b j e) = k (ix3 b (pos c j) e) := by
  rw [Layout.block_apply]
  congr 1
  funext a
  apply Fin.ext
  fin_cases a
  · rfl
  · show c.val * 1024 + j.val = 1024 * c.val + j.val; omega
  · rfl

/-- Every position lies in the quarter of some device. -/
theorem reals_of_quarters (k : Seq) (h : ∀ (c b : Fin 4) (j e : Fin 1024), ∃ r : ℝ, k (ix3 b (pos c j) e) = r) : Reals k := by
  intro i
  obtain ⟨b, p, e, rfl⟩ : ∃ (b : Fin 4) (p : Fin 4096) (e : Fin 1024), i = ix3 b p e := ⟨_, _, _, eq_ix3 i⟩
  have hp : pos ⟨p / 1024, by omega⟩ ⟨p % 1024, by omega⟩ = p := Fin.ext (by show 1024 * (p.val / 1024) + p.val % 1024 = p.val; omega)
  have := h ⟨p / 1024, by omega⟩ b ⟨p % 1024, by omega⟩ e
  rwa [hp] at this

theorem algebraic : Cert.algebraic_KernelIdeal_ReferenceIdeal_pre_finite_scores_KernelIdeal := by
  intro m g m' g' hpre hargs
  let X : Mat := m' (((0 : Dev Cert.ReferenceIdeal.nD).tc : Thread Cert.ReferenceIdeal.nD Cert.ReferenceIdeal.τ).loc Cert.ReferenceIdeal.main_arg0)
  let WQ : Mat := m' (((0 : Dev Cert.ReferenceIdeal.nD).tc : Thread Cert.ReferenceIdeal.nD Cert.ReferenceIdeal.τ).loc Cert.ReferenceIdeal.main_arg1)
  let WO : Mat := m' (((0 : Dev Cert.ReferenceIdeal.nD).tc : Thread Cert.ReferenceIdeal.nD Cert.ReferenceIdeal.τ).loc Cert.ReferenceIdeal.main_arg2)
  let K : Seq := m' (((0 : Dev Cert.ReferenceIdeal.nD).tc : Thread Cert.ReferenceIdeal.nD Cert.ReferenceIdeal.τ).loc Cert.ReferenceIdeal.main_arg3)
  let V : Seq := m' (((0 : Dev Cert.ReferenceIdeal.nD).tc : Thread Cert.ReferenceIdeal.nD Cert.ReferenceIdeal.τ).loc Cert.ReferenceIdeal.main_arg4)
  have P : Parts (argsOf m) X WQ WO K V := {
    x := fun c => (read_win0 _).trans (hargs c).1
    wq := fun c => (read_win1 _).trans (hargs c).2.1
    wo := fun c => (read_win2 _).trans (hargs c).2.2.1
    k := fun c b j e => (congrFun (hargs c).2.2.2.1 (ix3 b j e)).trans (block_quarter K c b j e)
    v := fun c b j e => (congrFun (hargs c).2.2.2.2 (ix3 b j e)).trans (block_quarter V c b j e) }
  have hfin := fun c => reals_of_pre _ _ _ _ _ (hpre c)
  have hX : Reals X := by
    have := (hfin 0).1
    rwa [(hargs 0).1] at this
  have hWQ : Reals WQ := by
    have := (hfin 0).2.1
    rwa [(hargs 0).2.1] at this
  have hK : Reals K := reals_of_quarters K fun c b j e => by
    have := (hfin c).2.2 (ix3 b j e)
    rw [(hargs c).2.2.2.1] at this
    rwa [← block_quarter K c b j e]
  have hout : ∀ c, outA (argsOf m) c = Cert.ReferenceIdealProof.refR X WQ WO K V := fun c => by
    funext i
    obtain ⟨r, n, rfl⟩ : ∃ r n : Fin 1024, i = ix2 r n := ⟨_, _, eq_ix2 i⟩
    rw [Cert.ReferenceIdealProof.refR_apply WO V hX hWQ hK]
    exact outA_apply P c hX hWQ hK r n
  refine ⟨Cert.ReferenceIdealProof.refR X WQ WO K V, ?_, ?_⟩
  · exact (θ_run Cert.KernelIdeal.defs _ _).mono (fun _ h c => ⟨(h.1 c).2.trans (hout c), (h.1 c).1⟩) (run_main (F := Ideal) m g)
  · exact (θ_run Cert.ReferenceIdeal.defs _ _).mono
      (fun _ h => ⟨(h 0).1.trans (Cert.ReferenceIdealProof.res_eq m' 0), (h 0).2⟩) (Cert.ReferenceIdeal.Value.run (F := Ideal) m' g')

end Cert.KernelIdealProof

end
-- ==== Proof.lean ====
/-
# The claims about the attention kernel on four devices

The frames of the three programs, and the value claim: under finite scores the kernel's result on every device
is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic

@[expose] public section

noncomputable section

namespace Cert.Proof

open Idealize.ShloMosaic Idealize.SL.Sem Cert.KernelIdealProof

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m ρ _ => frame_ideal m ρ trivial, frame_reference,
  fun m ρ _ => frame_reference m ρ trivial, trivial, algebraic⟩

end Cert.Proof

end
